-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S256x256 : Shape := ⟨2, ![256, 256]⟩
abbrev S3 : Shape := ⟨1, ![3]⟩
abbrev S_ : Shape := ⟨0, ![]⟩
abbrev S256x8 : Shape := ⟨2, ![256, 8]⟩
abbrev S8x256 : Shape := ⟨2, ![8, 256]⟩
abbrev S256x64 : Shape := ⟨2, ![256, 64]⟩
abbrev S8x64 : Shape := ⟨2, ![8, 64]⟩
abbrev S64x128 : Shape := ⟨2, ![64, 128]⟩
abbrev S32x128 : Shape := ⟨2, ![32, 128]⟩
abbrev S1x128x256 : Shape := ⟨3, ![1, 128, 256]⟩
abbrev S128x256 : Shape := ⟨2, ![128, 256]⟩
abbrev S32x256 : Shape := ⟨2, ![32, 256]⟩
abbrev S64x256 : Shape := ⟨2, ![64, 256]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x8, .f32⟩
  | .local _ .vmem, ⟨2, _⟩ => ⟨S256x1, .i32⟩
  | .local _ .vmem, ⟨3, _⟩ => ⟨S2x128x256, .f32⟩
  | .local _ .vmem, ⟨4, _⟩ => ⟨S256x256, .f32⟩
  | .local _ .vmem, ⟨5, _⟩ => ⟨S256x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_7 : BitVec 32 := 1#32
  let v11 : BitVec 32 := Scalar.muli v5 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v218 : BitVec 32 := Scalar.muli v2 c64_i32
  let v219 : Index := Scalar.indexCast v218
  let c0_66 : Index := 0#32
  ![v219.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_69 : BitVec 32 := 64#32
  let v224 : BitVec 32 := Scalar.muli v2 c64_i32_69
  let c0_i32_74 : BitVec 32 := 0#32
  ![v224.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_72 : BitVec 32 := 1#32
  let v225 : BitVec 32 := Scalar.muli v3 c1_i32_72
  let v226 : BitVec 32 := Scalar.addi c0_i32_73 v225
  v226.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_80 : BitVec 32 := 1#32
  let v235 : BitVec 32 := Scalar.muli v4 c1_i32_80
  let v236 : BitVec 32 := Scalar.addi c0_i32_81 v235
  v236.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_88 : BitVec 32 := 1#32
  let v245 : BitVec 32 := Scalar.muli v5 c1_i32_88
  let v246 : BitVec 32 := Scalar.addi c0_i32_89 v245
  v246.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S_ : Shape := ⟨0, ![]⟩
abbrev S8 : Shape := ⟨1, ![8]⟩
abbrev S256x8 : Shape := ⟨2, ![256, 8]⟩
abbrev S1x1 : Shape := ⟨2, ![1, 1]⟩
abbrev S1 : Shape := ⟨1, ![1]⟩
abbrev S1x8 : Shape := ⟨2, ![1, 8]⟩
abbrev S8x256x256 : Shape := ⟨3, ![8, 256, 256]⟩
abbrev S8x256 : Shape := ⟨2, ![8, 256]⟩
abbrev S8x256x1 : Shape := ⟨3, ![8, 256, 1]⟩
abbrev S256x256 : Shape := ⟨2, ![256, 256]⟩

abbrev nBuf : Space → Nat
  | .hbm => 43
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S8x128x256, .f32⟩
  | .hbm, ⟨4, _⟩ => ⟨S_, .i32⟩
  | .hbm, ⟨5, _⟩ => ⟨S8, .i32⟩
  | .hbm, ⟨6, _⟩ => ⟨S_, .i1⟩
  | .hbm, ⟨7, _⟩ => ⟨S256x8, .i1⟩
  | .hbm, ⟨8, _⟩ => ⟨S_, .i32⟩
  | .hbm, ⟨9, _⟩ => ⟨S256x1, .i32⟩
  | .hbm, ⟨10, _⟩ => ⟨S_, .i32⟩
  | .hbm, ⟨11, _⟩ => ⟨S8, .i32⟩
  | .hbm, ⟨12, _⟩ => ⟨S256x8, .i1⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x1, .i32⟩
  | .hbm, ⟨17, _⟩ => ⟨S1, .i32⟩
  | .hbm, ⟨18, _⟩ => ⟨S8, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S1x8, .i1⟩
  | .hbm, ⟨28, _⟩ => ⟨S_, .i32⟩
  | .hbm, ⟨29, _⟩ => ⟨S256x8, .i1⟩
  | .hbm, ⟨30, _⟩ => ⟨S_, .i32⟩
  | .hbm, ⟨31, _⟩ => ⟨S_, .i32⟩
  | .hbm, ⟨32, _⟩ => ⟨S8x256x256, .f32⟩
  | .hbm, ⟨33, _⟩ => ⟨S8x256x256, .f32⟩
  | .hbm, ⟨34, _⟩ => ⟨S8x256, .i1⟩
  | .hbm, ⟨35, _⟩ => ⟨S8x256x1, .i1⟩
  | .hbm, ⟨36, _⟩ => ⟨S_, .f32⟩
  | .hbm, ⟨37, _⟩ => ⟨S_, .f32⟩
  | .hbm, ⟨38, _⟩ => ⟨S8x256x256, .i1⟩
  | .hbm, ⟨39, _⟩ => ⟨S8x256x256, .f32⟩
  | .hbm, ⟨40, _⟩ => ⟨S8x256x256, .f32⟩
  | .hbm, ⟨41, _⟩ => ⟨S_, .f32⟩
  | .hbm, ⟨42, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_while0c_c_6 : Ref sig .tc := ⟨.hbm, 13, rfl⟩
abbrev main_while0c_v9 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v9 : Ref sig .tc := ⟨.hbm, 17, rfl⟩
abbrev main_while0b_v10 : Ref sig .tc := ⟨.hbm, 18, rfl⟩
abbrev main_while0b_v11 : Ref sig .tc := ⟨.hbm, 19, rfl⟩
abbrev main_while0b_v12 : Ref sig .tc := ⟨.hbm, 20, rfl⟩
abbrev main_while0b_c_6 : Ref sig .tc := ⟨.hbm, 21, rfl⟩
abbrev main_while0b_v13 : Ref sig .tc := ⟨.hbm, 22, rfl⟩
abbrev main_while0b_v14 : Ref sig .tc := ⟨.hbm, 23, rfl⟩
abbrev main_while0b_v15 : Ref sig .tc := ⟨.hbm, 24, rfl⟩
abbrev main_while0b_v16 : Ref sig .tc := ⟨.hbm, 25, rfl⟩
abbrev main_while0b_v17 : Ref sig .tc := ⟨.hbm, 26, rfl⟩
abbrev main_while0b_call1_v0 : Ref sig .tc := ⟨.hbm, 27, rfl⟩
abbrev main_while0b_call1_c : Ref sig .tc := ⟨.hbm, 28, rfl⟩
abbrev main_while0b_v18 : Ref sig .tc := ⟨.hbm, 29, rfl⟩
abbrev main_while0b_c_7 : Ref sig .tc := ⟨.hbm, 30, rfl⟩
abbrev main_while0b_v19 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩

abbrev nD : Nat := 1
abbrev τ : Topo := Topo.v7x

variable {F : FTy → Type} [FloatOps F]

abbrev main_while0_count : Scf.Loop 32 := ⟨0#32, 256#32, 1#32⟩
-- ==== Proof.Protocol.lean ====
/-
# The exchange: four devices, each handing its own block of the gathered rows to the other three

Every device computes a 64-row block of a 256-row scratch buffer and copies it to the same rows of the other three
devices' scratch buffers. Before it copies, it tells each partner that its scratch buffer is there to be written, and
waits until all three partners have told it the same.

Partner `k` of device `c` is the device whose number is `c` with the bits of `k + 1` flipped; partnership is mutual.
A device's cells: its barrier, which each partner pays one unit; three send cells, one for each copy it issues; three
receive cells, cell `k` paid by partner `k`'s copy. One round each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic
public import Idealize.ShloMosaic.Lib.Pointwise.Index

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own rounds, and the exchange's with three duty names -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory a run starts from: any contents, every counter zero. -/
def s₀ : MemSt nD τ sig (Elt F) := ⟨m, fun _ => 0, ρ⟩

/-! ## Partners -/

set_option backward.proofsInPublic true in
/-- Partner `k`: the device number with the bits of `k + 1` flipped. -/
def par (k : Fin 3) (c : Dev nD) : Dev nD := ⟨(c.val ^^^ (k.val + 1)) % 4, Nat.mod_lt _ (by decide)⟩

theorem par_par (k : Fin 3) (c : Dev nD) : par k (par k c) = c := by revert k c; decide
theorem par_ne (k : Fin 3) (c : Dev nD) : par k c ≠ c := by revert k c; decide
theorem par_inj {k k' : Fin 3} {c : Dev nD} (h : par k c = par k' c) : k = k' := by revert k k' c; decide

/-- Partnership as a permutation of the devices. -/
def swap (k : Fin 3) : Dev nD ≃ Dev nD := ⟨par k, par k, par_par k, par_par k⟩

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev4_eq (c : Dev nD) : (⟨k0_dev4 c, k0_dev4_lt c⟩ : Dev nD) = par 0 c := by revert c; decide +kernel
theorem dev5_eq (c : Dev nD) : (⟨k0_dev5 c, k0_dev5_lt c⟩ : Dev nD) = par 1 c := by revert c; decide +kernel
theorem dev6_eq (c : Dev nD) : (⟨k0_dev6 c, k0_dev6_lt c⟩ : Dev nD) = par 2 c := by revert c; decide +kernel

/-! ## Buffers, semaphores, cells -/

abbrev xM : Memref sig .tc .vmem S256x128 .f32 := Memref.whole cc0_stg0_0
abbrev iM : Memref sig .tc .vmem S256x1 .i32 := Memref.whole cc0_stg2_0
abbrev eM : Memref sig .tc .vmem S2x128x256 .f32 := Memref.whole cc0_stg3_0
abbrev oM : Memref sig .tc .vmem S256x256 .f32 := Memref.whole cc0_stg4_0
abbrev gM : Memref sig .tc .vmem S256x256 .bf16 := Memref.whole cc0_scratch0

/-- The rows of the scratch buffer that device `p` computes. -/
abbrev rowRect (p : Dev nD) : Rect S256x256 := Rect.unit (s := S256x256) (k0_off2 p) S64x256.size (k0_off2_inb p)
abbrev sbM (p : Dev nD) : Memref sig .tc .vmem S64x256 .bf16 := (gM).slice (rowRect p) (fun _ => rfl)

abbrev barS : Sem sig := (SemArray.scalar (sig.barrier 0 rfl) : Sems sig S_).sem
def sendS : Fin 3 → DmaSem sig
  | 0 => ((cc0_scratch1.slice (Rect.unit (s := S3) ![0] S1.size inb_S3_S1_0)).squeeze S_ squeezes_S1_S_ : DmaSems sig S_).sem
  | 1 => ((cc0_scratch1.slice (Rect.unit (s := S3) ![1] S1.size inb_S3_S1_1)).squeeze S_ squeezes_S1_S_ : DmaSems sig S_).sem
  | 2 => ((cc0_scratch1.slice (Rect.unit (s := S3) ![2] S1.size inb_S3_S1_2)).squeeze S_ squeezes_S1_S_ : DmaSems sig S_).sem
def recvS : Fin 3 → DmaSem sig
  | 0 => ((cc0_scratch2.slice (Rect.unit (s := S3) ![0] S1.size inb_S3_S1_0)).squeeze S_ squeezes_S1_S_ : DmaSems sig S_).sem
  | 1 => ((cc0_scratch2.slice (Rect.unit (s := S3) ![1] S1.size inb_S3_S1_1)).squeeze S_ squeezes_S1_S_ : DmaSems sig S_).sem
  | 2 => ((cc0_scratch2.slice (Rect.unit (s := S3) ![2] S1.size inb_S3_S1_2)).squeeze S_ squeezes_S1_S_ : DmaSems sig S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The semaphores the kernel owns: three send, three receive. -/
abbrev osem : Fin 6 → SemLoc sig
  | 0 => .dma (sendS 0) | 1 => .dma (sendS 1) | 2 => .dma (sendS 2)
  | 3 => .dma (recvS 0) | 4 => .dma (recvS 1) | 5 => .dma (recvS 2)
/-- All seven of the exchange's: the barrier first. -/
abbrev csem : Fin 7 → SemLoc sig
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- The place of the send cells and of the receive cells among the seven. -/
abbrev sj (k : Fin 3) : Fin 7 := ⟨k.val + 1, by omega⟩
abbrev rj (k : Fin 3) : Fin 7 := ⟨k.val + 4, by omega⟩

theorem kcell_s (k : Fin 3) (c : Dev nD) : kcell (c, sj k) = sendCell k c := by fin_cases k <;> rfl
theorem kcell_r (k : Fin 3) (c : Dev nD) : kcell (c, rj k) = recvCell k c := by fin_cases k <;> rfl

theorem send_inj : ∀ k k' : Fin 3, sendS k = sendS k' → k = k' := by decide
theorem recv_inj : ∀ k k' : Fin 3, recvS k = recvS k' → k = k' := by decide
theorem send_ne_recv : ∀ k k' : Fin 3, (SemLoc.dma (sendS k) : SemLoc sig) ≠ .dma (recvS k') := by decide
theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h

/-- What one copy of a block credits. -/
abbrev N : ℕ := (sbM 0).view.dmaCredit
theorem N_pos : 0 < N := View.dmaCredit_pos _ (by decide)
theorem N_eq (p : Dev nD) : (sbM p).view.dmaCredit = N := rfl

/-! ## Contents -/

/-- What the pipeline stages for the body: the tokens' features, the routing, this device's two experts. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))

/-- The device's number as the body computes it. -/
abbrev devW (c : Dev nD) : BitVec 32 := Scalar.remsi (Scalar.divsi (Dev.word c) 1#32) 4#32

/-- The scatter mask a device builds from the routing alone. -/
def smask (i : Vec F S256x1 .i32) : FVec F S256x256 .bf16 :=
  k0_pay9 (k0_pay1 (F := F) i) (k0_pay2 i) (k0_pay5 (iota .tc S256x256 32 [1] iota_S256x256_d1_w32) 32#32 k0_pay3 k0_pay4) k0_pay6
    (iota .tc S8x256 32 [0] iota_S8x256_d0_w32) (iota .tc S8x256 32 [1] iota_S8x256_d1_w32) 32#32 k0_pay7 k0_pay8
    (Scalar.extui (Scalar.cmpi .sgt 32#32 0#32)) 0#32

/-- The 64 rows device `c` computes: the rows its two experts give for the tokens they take. -/
def blkVal (c : Dev nD) : FVec F S64x256 .bf16 :=
  k0_pay19 (k0_pay18 (k0_pay1 (F := F) (istg m ρ c)) (k0_pay2 (istg m ρ c))
    (k0_pay13 (iota .tc S256x64 32 [1] iota_S256x64_d1_w32) (Scalar.muli (devW c) 2#32) k0_pay10 k0_pay11 k0_pay12)
    (k0_pay14 (iota .tc S256x64 32 [1] iota_S256x64_d1_w32)) (iota .tc S8x64 32 [0] iota_S8x64_d0_w32) (Scalar.muli (devW c) 2#32)
    k0_pay15 k0_pay16 k0_pay17 (xstg m ρ c)
    ((eM).view.readAt (Elt F) (Rect.unit (s := S2x128x256) ![0, 0, 0] S1x128x256.size inb_S2x128x256_S1x128x256_0_0_0).toLoadRect (estg m ρ c))
    ((eM).view.readAt (Elt F) (Rect.unit (s := S2x128x256) ![1, 0, 0] S1x128x256.size inb_S2x128x256_S1x128x256_1_0_0).toLoadRect (estg m ρ c)))

set_option backward.proofsInPublic true in
/-- The device that computes row `r`, and the row's place in that device's block. -/
def rowDev (r : Fin 256) : Dev nD := ⟨r.val / 64, by have := r.isLt; exact (Nat.div_lt_iff_lt_mul (by decide)).mpr (by omega)⟩
set_option backward.proofsInPublic true in
def rowIn (r : Fin 256) : Fin 64 := ⟨r.val % 64, Nat.mod_lt _ (by decide)⟩

/-- The gathered rows: block `p` of them is what device `p` computes. -/
def gath : (cc0_scratch0 : Ref sig .tc).ty.Contents (Elt F) :=
  fun (i : S256x256.Idx) => blkVal m ρ (rowDev (i 0)) ((ix2 (rowIn (i 0)) (i 1)))

/-- The kernel's result on device `c`. -/
def outAt (c : Dev nD) : (cc0_stg4_0 : Ref sig .tc).ty.Contents (Elt F) := k0_pay20 (smask (istg m ρ c)) (gath m ρ)

/-! ## The scratch buffer in blocks -/

/-- Block `p` of device `c`'s scratch buffer, at share `q` and contents `f`. -/
def blk (c p : Dev nD) (q : PosShare TreeShare) (f : Buf (Elt F) ((c : Thread nD τ).loc cc0_scratch0)) : sProp 𝕄 :=
  (sbM p).view.loc (c : Thread nD τ) ↦[(sbM p).view.set]{q} f

omit [FloatOps F] in
instance blk_storable (c p : Dev nD) (q) (f) : BI.Storable (upEmb : UEmb _ 𝕄) (blk (F := F) c p q f) := by unfold blk; infer_instance

/-- The share of its own block each copy carries, and the one the device keeps. -/
def sendQ : Fin 3 → PosShare TreeShare
  | 0 => fullShare.right.left | 1 => fullShare.right.right.left | 2 => fullShare.right.right.right
abbrev keepQ : PosShare TreeShare := fullShare.left

/-! ## The schedule -/

/-- What partner `k` hands device `c` with its signal: its own scratch buffer's block `c`. -/
def barPay (k : Fin 3) (c : Dev nD) : sProp 𝕄 := iprop(∃ f, blk (par k c) c fullShare f)
/-- What partner `k`'s copy hands device `c`: partner `k`'s block, holding what partner `k` computed. -/
def recvPay (k : Fin 3) (c : Dev nD) : sProp 𝕄 := blk c (par k c) fullShare (gath m ρ)
/-- What a device's own copy hands back: the lent share of its own block. -/
def sendPay (k : Fin 3) (c : Dev nD) : sProp 𝕄 := blk c c (sendQ k) (gath m ρ)

abbrev IsXfer (g : GSem nD τ sig) : Prop := ∃ k : Fin 3, g.2 = .dma (sendS k) ∨ g.2 = .dma (recvS k)

/-- One round: a barrier has three duties of one unit; a send or receive cell one duty of a block's credit. -/
def exch : Rounds.Schedule (GSem nD τ sig) (Fin 3) 𝕄 where
  duties g r := if r = 0 ∧ g.1.2 = .tc ∧ g.2 = .reg barS then Finset.univ else if r = 0 ∧ g.1.2 = .tc ∧ IsXfer g then {0} else ∅
  unitless _ := False
  amount g _ _ := if g.2 = .reg barS then 1 else N
  payload g _ d :=
    if g.2 = .reg barS then barPay d g.1.1
    else if g.2 = .dma (recvS 0) then recvPay m ρ 0 g.1.1
    else if g.2 = .dma (recvS 1) then recvPay m ρ 1 g.1.1
    else if g.2 = .dma (recvS 2) then recvPay m ρ 2 g.1.1
    else if g.2 = .dma (sendS 0) then sendPay m ρ 0 g.1.1
    else if g.2 = .dma (sendS 1) then sendPay m ρ 1 g.1.1
    else if g.2 = .dma (sendS 2) then sendPay m ρ 2 g.1.1
    else iprop(emp)
  amount_pos g _ _ _ := by
    by_cases h : g.2 = .reg barS
    · rw [if_pos h]; exact Nat.one_pos
    · rw [if_neg h]; exact N_pos

instance exch_payload_storable (g : GSem nD τ sig) (r : ℕ) (d : Fin 3) :
    BI.Storable (upEmb : UEmb _ 𝕄) ((exch (F := F) m ρ).payload g r d) := by
  dsimp only [exch]
  unfold barPay recvPay sendPay
  (repeat' split) <;> infer_instance

section Sched
variable (k : Fin 3) (c : Dev nD)

theorem duties_bar : (exch (F := F) m ρ).duties (barCell c) 0 = Finset.univ := by dsimp only [exch]; exact if_pos ⟨rfl, rfl, rfl⟩
theorem duties_send : (exch (F := F) m ρ).duties (sendCell k c) 0 = {0} := by
  dsimp only [exch]; rw [if_neg (fun h => send_ne_bar k h.2.2)]; exact if_pos ⟨rfl, rfl, k, .inl rfl⟩
theorem duties_recv : (exch (F := F) m ρ).duties (recvCell k c) 0 = {0} := by
  dsimp only [exch]; rw [if_neg (fun h => recv_ne_bar k h.2.2)]; exact if_pos ⟨rfl, rfl, k, .inr rfl⟩
theorem duties_later (g : GSem nD τ sig) : ∀ r, 1 ≤ r → (exch (F := F) m ρ).duties g r = ∅ :=
  fun r hr => by dsimp only [exch]; rw [if_neg fun h => by omega, if_neg fun h => by omega]

theorem amount_bar (d : Fin 3) : (exch (F := F) m ρ).amount (barCell c) 0 d = 1 := by dsimp only [exch]; exact if_pos rfl
theorem amount_send (d : Fin 3) : (exch (F := F) m ρ).amount (sendCell k c) 0 d = N := by dsimp only [exch]; exact if_neg (send_ne_bar k)
theorem amount_recv (d : Fin 3) : (exch (F := F) m ρ).amount (recvCell k c) 0 d = N := by dsimp only [exch]; exact if_neg (recv_ne_bar k)

theorem expect_bar : (exch (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (exch (F := F) m ρ).expect (sendCell k c) 0 = N := by
  unfold Schedule.expect Schedule.amountOf; rw [duties_send, Finset.sum_singleton, amount_send]
theorem expect_recv : (exch (F := F) m ρ).expect (recvCell k c) 0 = N := by
  unfold Schedule.expect Schedule.amountOf; rw [duties_recv, Finset.sum_singleton, amount_recv]

theorem payload_bar (d : Fin 3) : (exch (F := F) m ρ).payload (barCell c) 0 d = barPay d c := by dsimp only [exch]; exact if_pos rfl

theorem recv_if {α : Type} (x : α) (y : Fin 3 → α) (z : α) :
    (if (SemLoc.dma (recvS k) : SemLoc sig) = .reg barS then x
      else if (SemLoc.dma (recvS k) : SemLoc sig) = .dma (recvS 0) then y 0
      else if (SemLoc.dma (recvS k) : SemLoc sig) = .dma (recvS 1) then y 1
      else if (SemLoc.dma (recvS k) : SemLoc sig) = .dma (recvS 2) then y 2 else z) = y k := by
  rw [if_neg (recv_ne_bar k)]
  have h : ∀ k k' : Fin 3, (SemLoc.dma (recvS k) : SemLoc sig) = .dma (recvS k') → k = k' := fun k k' h => recv_inj k k' (SemLoc.dma.inj h)
  fin_cases k
  · exact if_pos rfl
  · rw [if_neg fun e => absurd (h _ _ e) (by decide)]; exact if_pos rfl
  · rw [if_neg fun e => absurd (h _ _ e) (by decide), if_neg fun e => absurd (h _ _ e) (by decide)]; exact if_pos rfl

theorem send_if {α : Type} (x : α) (w y : Fin 3 → α) (z : α) :
    (if (SemLoc.dma (sendS k) : SemLoc sig) = .reg barS then x
      else if (SemLoc.dma (sendS k) : SemLoc sig) = .dma (recvS 0) then w 0
      else if (SemLoc.dma (sendS k) : SemLoc sig) = .dma (recvS 1) then w 1
      else if (SemLoc.dma (sendS k) : SemLoc sig) = .dma (recvS 2) then w 2
      else if (SemLoc.dma (sendS k) : SemLoc sig) = .dma (sendS 0) then y 0
      else if (SemLoc.dma (sendS k) : SemLoc sig) = .dma (sendS 1) then y 1
      else if (SemLoc.dma (sendS k) : SemLoc sig) = .dma (sendS 2) then y 2 else z) = y k := by
  rw [if_neg (send_ne_bar k), if_neg (send_ne_recv k 0), if_neg (send_ne_recv k 1), if_neg (send_ne_recv k 2)]
  have h : ∀ k k' : Fin 3, (SemLoc.dma (sendS k) : SemLoc sig) = .dma (sendS k') → k = k' := fun k k' h => send_inj k k' (SemLoc.dma.inj h)
  fin_cases k
  · exact if_pos rfl
  · rw [if_neg fun e => absurd (h _ _ e) (by decide)]; exact if_pos rfl
  · rw [if_neg fun e => absurd (h _ _ e) (by decide), if_neg fun e => absurd (h _ _ e) (by decide)]; exact if_pos rfl

theorem payload_recv (d : Fin 3) : (exch (F := F) m ρ).payload (recvCell k c) 0 d = recvPay m ρ k c := by
  dsimp only [exch]; exact recv_if k _ (fun k => recvPay m ρ k c) _
theorem payload_send (d : Fin 3) : (exch (F := F) m ρ).payload (sendCell k c) 0 d = sendPay m ρ k c := by
  dsimp only [exch]; exact send_if k _ (fun k => recvPay m ρ k c) (fun k => sendPay m ρ k c) _

/-- The barrier's whole round: the three partners' blocks. -/
theorem rest_bar : bigSep ((exch (F := F) m ρ).duties (barCell c) 0 \ ∅) (fun d => (exch (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((exch (F := F) m ρ).duties (sendCell k c) 0 \ ∅) (fun d => (exch (F := F) m ρ).payload (sendCell k c) 0 d) = sendPay m ρ k c := by
  rw [Finset.sdiff_empty, duties_send, bigSep_singleton, payload_send]
theorem rest_recv : bigSep ((exch (F := F) m ρ).duties (recvCell k c) 0 \ ∅) (fun d => (exch (F := F) m ρ).payload (recvCell k c) 0 d) = recvPay m ρ k c := by
  rw [Finset.sdiff_empty, duties_recv, bigSep_singleton, payload_recv]

end Sched

/-! ## What each device owes at the start, and the order of the waits -/

abbrev rT (k : Fin 3) (c : Dev nD) : CellTallies nD τ sig Unit := tallyAt (recvCell k (par k c)) () N
abbrev bT (k : Fin 3) (c : Dev nD) : CellTallies nD τ sig Unit := tallyAt (barCell (par k c)) () 1

/-- A block's credit to each partner's receive cell: what is left to pay at the barrier. -/
def OR (c : Dev nD) : CellTallies nD τ sig Unit := rT 2 c + rT 1 c + rT 0 c
/-- That and a unit to each partner's barrier. -/
def O₀ (c : Dev nD) : CellTallies nD τ sig Unit := OR c + bT 2 c + bT 1 c + bT 0 c

def L (g : GSem nD τ sig) : Finset Unit := if g.1.2 = .tc then {()} else ∅
/-- Barriers at 1, receive cells at 2, everything else at 0. -/
def lv (g : GSem nD τ sig) (_ : Unit) : ℕ := if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (k : Fin 3) (c : Dev nD) (u : Unit) : lv (recvCell k c) u = 2 := by
  dsimp only [lv]; rw [if_neg (recv_ne_bar k)]; exact if_pos ⟨k, rfl⟩

theorem OR_pos {c : Dev nD} {g : GSem nD τ sig} {u : Unit} (h : 0 < OR c g u) : ∃ k, g = recvCell k (par k c) := by
  unfold OR at h
  simp only [Pi.add_apply, Finsupp.add_apply, tallyAt_apply] at h
  by_contra hn
  push Not at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell k (par k c)) ∨ ∃ k, g = barCell (par k c) := by
  unfold O₀ at h
  by_contra hn
  rw [not_or] at hn
  have hr : OR c g u = 0 := Nat.eq_zero_of_not_pos fun h' => hn.1 (OR_pos h')
  have hb := hn.2
  push Not at hb
  simp only [Pi.add_apply, Finsupp.add_apply, tallyAt_apply] at h
  rw [hr, if_neg (fun h' => hb 2 h'.1), if_neg (fun h' => hb 1 h'.1), if_neg (fun h' => hb 0 h'.1)] at h
  exact Nat.lt_irrefl 0 h

omit [FloatOps F] in
theorem mayWait_stage (c : Dev nD) (q : DmaSem sig) (hq : ∀ k, SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg (fun ⟨k, h⟩ => hq k h)])
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier a device still owes receive credits only, and those come after the barrier. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact (lv_bar c ()).le)
    (fun g u hg => by obtain ⟨k, rfl⟩ := OR_pos hg; rw [lv_recv]; decide)

end Cert.Exchange

end
-- ==== Proof.Blocks.lean ====
/-
# The scratch buffer's four blocks

Block `p` is rows `64 p … 64 p + 63`. The four blocks are disjoint and fill the buffer; the gathered contents read back
through block `p` are what device `p` computes; a store or a landed copy of those values into block `p` leaves the
gathered contents there.
-/
module

public import proofs.«01_k».proof.Proof.Protocol

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

theorem off_eq (c : Dev nD) : k0_off1 c = k0_off2 c := (k0_off1_eq c).trans (k0_off2_eq c).symm

/-- The rows as the body's store names them. -/
abbrev rowRect1 (p : Dev nD) : Rect S256x256 := Rect.unit (s := S256x256) (k0_off1 p) S64x256.size (k0_off1_inb p)

theorem unit_off_eq {o o' : Fin 2 → Nat} (e : o = o') (h : ∀ a, o a + S64x256.size a ≤ S256x256.size a) (h' : ∀ a, o' a + S64x256.size a ≤ S256x256.size a) :
    Rect.unit (s := S256x256) o S64x256.size h = Rect.unit (s := S256x256) o' S64x256.size h' := by subst e; rfl
theorem rect_eq (p : Dev nD) : rowRect1 p = rowRect p := unit_off_eq (off_eq p) _ _

theorem mem_rows (p : Dev nD) (i : S256x256.Idx) : i ∈ (rowRect p).set ↔ (i 0).val / 64 = p.val := by
  have h0 := (i 0).isLt
  have h1 := (i 1).isLt
  rw [Rect.mem_set_unit, Fin.forall_fin_two, k0_off2_eq]
  simp only [Matrix.cons_val_zero, Matrix.cons_val_one, Matrix.cons_val_fin_one]
  show (64 * p.val ≤ (i 0).val ∧ (i 0).val < 64 * p.val + 64) ∧ (0 ≤ (i 1).val ∧ (i 1).val < 0 + 256) ↔ _
  constructor
  · rintro ⟨⟨a, b⟩, -⟩; omega
  · intro h; refine ⟨⟨by omega, by omega⟩, Nat.zero_le _, by simpa using h1⟩

theorem sb_set (p : Dev nD) : (sbM p).view.set = (rowRect p).set := View.set_slice_whole cc0_scratch0 (rowRect p)

theorem rows_disjoint : ∀ p p' : Dev nD, p ≠ p' → Disjoint (rowRect p).set (rowRect p').set := by
  intro p p' hne
  rw [Finset.disjoint_left]
  intro i h h'
  exact hne (Fin.ext (((mem_rows p i).mp h).symm.trans ((mem_rows p' i).mp h')))

theorem rows_cover : (Finset.univ : Finset (Dev nD)).biUnion (fun p => (rowRect p).set) = Finset.univ := by
  ext i
  simp only [Finset.mem_biUnion, Finset.mem_univ, true_and, iff_true]
  exact ⟨rowDev (i 0), (mem_rows _ i).mpr rfl⟩

omit [FloatOps F] in
theorem blk_eq (c p : Dev nD) (q : PosShare TreeShare) (f : Buf (Elt F) ((c : Thread nD τ).loc cc0_scratch0)) :
    (blk c p q f : sProp 𝕄) = (((c : Thread nD τ).loc cc0_scratch0) ↦[(rowRect p).set]{q} f) := by
  unfold blk
  exact congrArg (fun I : Finset (Idx ((c : Thread nD τ).loc cc0_scratch0)) => (((c : Thread nD τ).loc cc0_scratch0) ↦[I]{q} f : sProp 𝕄)) (sb_set p)

theorem devs_eq : ∀ c : Dev nD, (Finset.univ : Finset (Dev nD)) = [c, par 0 c, par 1 c, par 2 c].toFinset := by decide
theorem devs_nodup : ∀ c : Dev nD, [c, par 0 c, par 1 c, par 2 c].Nodup := by decide

omit [FloatOps F] in
/-- The scratch buffer at one share is its four blocks at that share: the device's own and its partners'. -/
theorem scr_blocks (c : Dev nD) (q : PosShare TreeShare) (f : Buf (Elt F) ((c : Thread nD τ).loc cc0_scratch0)) :
    (((c : Thread nD τ).loc cc0_scratch0) ↦{q} f : sProp 𝕄)
      = iprop(blk c c q f ∗ blk c (par 0 c) q f ∗ blk c (par 1 c) q f ∗ blk c (par 2 c) q f) := by
  rw [Ring.pointsTo_blocks (ℓ := (c : Thread nD τ).loc cc0_scratch0) (fun p : Dev nD => (rowRect p).set) rows_disjoint rows_cover f,
    bigSep_univ_eq_bigSepL [c, par 0 c, par 1 c, par 2 c] (devs_eq c) (devs_nodup c)]
  simp only [blk_eq]
  rfl

/-! ## Contents of a block -/

section Emb
variable (p : Dev nD) (o : Fin 2 → Nat) (h : ∀ a, o a + S64x256.size a ≤ S256x256.size a) (e : o = ![64 * p.val, 0])
include e

theorem emb_row (x : S64x256.Idx) : (((Rect.unit (s := S256x256) o S64x256.size h).emb x) 0).val = 64 * p.val + (x 0).val := by
  subst e
  rw [Rect.emb_apply]
  show 64 * p.val + 1 * (x 0).val = _
  rw [Nat.one_mul]
theorem emb_col (x : S64x256.Idx) : (((Rect.unit (s := S256x256) o S64x256.size h).emb x) 1).val = (x 1).val := by
  subst e
  rw [Rect.emb_apply]
  show 0 + 1 * (x 1).val = _
  omega

theorem gath_emb (x : S64x256.Idx) : gath m ρ ((Rect.unit (s := S256x256) o S64x256.size h).emb x) = blkVal m ρ p x := by
  have h0 := emb_row p o h e x
  have h1 := emb_col p o h e x
  generalize (Rect.unit (s := S256x256) o S64x256.size h).emb x = y at h0 h1
  have hx : (x 0).val < 64 := (x 0).isLt
  have e1 : rowDev (y 0) = p := Fin.ext (by
    show (y 0).val / 64 = p.val
    omega)
  have e2 : rowIn (y 0) = x 0 := Fin.ext (by
    show (y 0).val % 64 = (x 0).val
    omega)
  have e3 : (y 1 : Fin 256) = x 1 := Fin.ext h1
  show blkVal m ρ (rowDev (y 0)) (ix2 (rowIn (y 0)) (y 1)) = _
  rw [e1, e2, e3]
  exact congrArg _ (ix2_eta (n0 := 64) (n1 := 256) x)
end Emb

/-- The store of what device `p` computes leaves the gathered contents on block `p`. -/
theorem stored (p : Dev nD) (f : (cc0_scratch0 : Ref sig .tc).ty.Contents (Elt F)) :
    ∀ i ∈ (rowRect p).set, ((gM).access (rowRect1 p)).write (Elt F) f (blkVal m ρ p) Finset.univ i = gath m ρ i := by
  intro i hi
  rw [← rect_eq, ← View.set_slice_whole cc0_scratch0 (rowRect1 p)] at hi
  obtain ⟨x, -, rfl⟩ := Finset.mem_map.mp hi
  refine (View.write_emb_of_mem (v := (gM).access (rowRect1 p)) f (blkVal m ρ p) (Finset.mem_univ x)).trans ?_
  exact (gath_emb m ρ p _ (k0_off1_inb p) (k0_off1_eq p) x).symm

omit [FloatOps F] in
/-- Copying a block of contents into the same block leaves those contents there. -/
theorem copied (p : Dev nD) (f g : (cc0_scratch0 : Ref sig .tc).ty.Contents (Elt F)) :
    ∀ i ∈ (sbM p).view.set, (sbM p).view.write (Elt F) f ((sbM p).view.read (Elt F) g) Finset.univ i = g i := by
  intro i hi
  obtain ⟨x, -, rfl⟩ := Finset.mem_map.mp hi
  exact (View.write_emb_of_mem (v := (sbM p).view) f _ (Finset.mem_univ x)).trans (by rw [View.read_apply, cast_cast, cast_eq])

/-! ## Shares -/

omit [FloatOps F] in
/-- A block held whole is the share a device keeps and the three its copies carry. -/
theorem blk_shares (c p : Dev nD) (f) :
    (blk (F := F) c p fullShare f) ⊣⊢ iprop(blk c p keepQ f ∗ blk c p (sendQ 0) f ∗ blk c p (sendQ 1) f ∗ blk c p (sendQ 2) f) := by
  unfold blk
  exact (pointsTo_share (PosShare.mem_left_op_right fullShare)).trans
    (sep_congr_right ((pointsTo_share (PosShare.mem_left_op_right fullShare.right)).trans
      (sep_congr_right (pointsTo_share (PosShare.mem_left_op_right fullShare.right.right)))))

omit [FloatOps F] in
/-- A block held whole is the share a device keeps and the rest. -/
theorem blk_keep (c p : Dev nD) (f) :
    (blk (F := F) c p fullShare f) ⊣⊢ iprop(blk c p keepQ f ∗ blk c p fullShare.right f) := by
  unfold blk
  exact pointsTo_share (PosShare.mem_left_op_right fullShare)

end Cert.Exchange

end
-- ==== Proof.Body.lean ====
/-
# The body, once, at a symbolic device

What a device starts from and ends with, and the body taken from one to the other, one effect after another: three
signals, the loads, the store of its own block, the barrier, three copies, three receives, the load of the gathered
rows, the store of the result, three send waits.

A device keeps one share of its own block while its copies carry the other three, so it may load the whole buffer while
the copies are under way.
-/
module

public import proofs.«01_k».proof.Proof.Blocks

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

section State
variable (K : Dev nD × Fin 7 → ℕ) (c : Dev nD) (k : Fin 3)

/-- What is known for partner `k`: the invariants of the cells the two share, and that they are at round 0. -/
def known : sProp 𝕄 :=
  iprop(cellInv EX (exch m ρ) (K (par k c, 0)) (barCell (par k c)) ∗ cellInv EX (exch m ρ) (K (c, sj k)) (sendCell k c)
    ∗ cellInv EX (exch m ρ) (K (c, rj k)) (recvCell k c) ∗ cellInv EX (exch m ρ) (K (par k c, rj k)) (recvCell k (par k c))
    ∗ reached EX (barCell (par k c)) 0 ∗ reached EX (sendCell k c) 0 ∗ reached EX (recvCell k (par k c)) 0)

instance known_persistent : BI.Persistent (known m ρ K c k) := by unfold known; infer_instance

/-- What is held for partner `k`: the positions at the device's own two cells, the duties it pays. -/
def held : sProp 𝕄 :=
  iprop(atPos EX (sendCell k c) 0 ∅ 0 ∗ atPos EX (recvCell k c) 0 ∅ 0
    ∗ dutyTok EX (barCell (par k c)) 0 k ∗ dutyTok EX (sendCell k c) 0 0 ∗ dutyTok EX (recvCell k (par k c)) 0 0)

def ghost : sProp 𝕄 :=
  iprop(cellInv EX (exch m ρ) (K (c, 0)) (barCell c) ∗ atPos EX (barCell c) 0 ∅ 0
    ∗ (known m ρ K c 0 ∗ known m ρ K c 1 ∗ known m ρ K c 2) ∗ (held c 0 ∗ held c 1 ∗ held c 2))

/-- The credits a device waits with: its barrier's three units, each receive cell's block. -/
def credits : sProp 𝕄 :=
  iprop(cred (tallyAt (barCell c) () 3) ∗ cred (tallyAt (recvCell 0 c) () N) ∗ cred (tallyAt (recvCell 1 c) () N) ∗ cred (tallyAt (recvCell 2 c) () N))

def start : sProp 𝕄 := iprop((∃ K, ghost m ρ K c) ∗ credits c ∗ levAts L lv)

def scr (f : Buf (Elt F) ((c : Thread nD τ).loc cc0_scratch0)) : sProp 𝕄 := ((c : Thread nD τ).loc cc0_scratch0) ↦{fullShare} f

def Φ₀ : sProp 𝕄 := iprop(start m ρ c ∗ ∃ f, scr c f)

/-- The counters at zero again: the barrier's, and the device's own six. -/
def zeros : sProp 𝕄 :=
  iprop(semVal (barCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def Φ₁ : sProp 𝕄 := iprop(scr c (gath m ρ) ∗ zeros c)

end State

/-- The pipeline's data: the inputs as staged, the result as computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => estg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Loads and stores of whole buffers -/

omit [FloatOps F] in
theorem z2 : (![0, 0] : Fin 2 → Nat) = fun _ => 0 := funext fun a => by fin_cases a <;> rfl

abbrev rI : Rect S256x1 := Rect.unit (s := S256x1) ![0, 0] S256x1.size inb_S256x1_S256x1_0_0
abbrev rX : Rect S256x128 := Rect.unit (s := S256x128) ![0, 0] S256x128.size inb_S256x128_S256x128_0_0
abbrev rO : Rect S256x256 := Rect.unit (s := S256x256) ![0, 0] S256x256.size inb_S256x256_S256x256_0_0

omit [FloatOps F] in
theorem load_i (f : (cc0_stg2_0 : Ref sig .tc).ty.Contents (Elt F)) : (iM).view.readAt (Elt F) rI.toLoadRect f = f :=
  Memref.readAt_unit_zero (Elt F) cc0_stg2_0 z2 _ f
omit [FloatOps F] in
theorem load_x (f : (cc0_stg0_0 : Ref sig .tc).ty.Contents (Elt F)) : (xM).view.readAt (Elt F) rX.toLoadRect f = f :=
  Memref.readAt_unit_zero (Elt F) cc0_stg0_0 z2 _ f
omit [FloatOps F] in
theorem load_g (f : (cc0_scratch0 : Ref sig .tc).ty.Contents (Elt F)) : (gM).view.readAt (Elt F) rO.toLoadRect f = f :=
  Memref.readAt_unit_zero (Elt F) cc0_scratch0 z2 _ f
omit [FloatOps F] in
theorem store_o (f w : (cc0_stg4_0 : Ref sig .tc).ty.Contents (Elt F)) :
    ((oM).access rO : View sig .tc _ _ _).write (Elt F) f w Finset.univ = w :=
  Memref.write_access_unit_zero_univ (Elt F) cc0_stg4_0 z2 _ f w

/-! ## A copy to a partner -/

section Copy
variable (K : Dev nD × Fin 7 → ℕ)

/-- Device `c`'s copy to partner `k`: the lent share of its own block goes, and the partner's block holding the same
    values is the partner's. -/
theorem wp_copy (k : Fin 3) (c n : Dev nD) (hn : n = par k c)
    {hsc : (sbM c : Memref sig (Dev.tc n : Thread nD τ).2.kind .vmem S64x256 .bf16).view.ref.isScScratch = false}
    {hsrc : (sbM c).view.WordExact} {hdst : (sbM c).view.WordExact}
    {hsem : DmaTarget.Typed .vmem (.dma (recvS k)) (.remote (Dev.tc n : Thread nD τ) (sbM c) (.dma (sendS k)) hsc)}
    {α : Type} {Q : α → sProp 𝕄} {kt : PUnit → Prog (TpuEff nD τ sig (Elt F) Λ₀ .tc) α}
    (fn : Buf (Elt F) ((par k c : Thread nD τ).loc cc0_scratch0)) (O : CellTallies nD τ sig Unit) {O' : CellTallies nD τ sig Unit}
    (hO : O' = O + rT k c) (W : Waits sig Unit) :
    iprop(known m ρ K c k ∗ blk c c (sendQ k) (gath m ρ) ∗ blk (par k c) c fullShare fn
        ∗ owes (c : Thread nD τ) O' W ∗ dutyTok EX (sendCell k c) 0 0 ∗ dutyTok EX (recvCell k (par k c)) 0 0)
      ⊢ iprop(((cred (tallyAt (sendCell k c) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sbM c) (.remote (Dev.tc n : Thread nD τ) (sbM c) (.dma (sendS k)) hsc) (.dma (recvS k)) hsrc hdst hsem) kt) Q) := by
  subst hn
  refine BIBase.Entails.trans ?_ (Rounds.wp_send_pointsTo 𝒱₀ EX (exch m ρ) (c : Thread nD τ) none
    (κ₁ := K (c, sj k)) (κ₂ := K (par k c, rj k)) (q := sendQ k) (fs := gath m ρ)
    (r₁ := 0) (r₂ := 0) (d₁ := 0) (d₂ := 0) (fd := fn)
    (by rw [duties_send]; exact Finset.mem_singleton_self _) (by rw [duties_recv]; exact Finset.mem_singleton_self _)
    () () N rfl (amount_send m ρ k c 0) (amount_recv m ρ k (par k c) 0) O hO (W := W)
    (by rw [payload_send]; exact BI.Entails.refl _)
    (by
      rw [payload_recv]; unfold recvPay; rw [par_par]; unfold blk
      exact Entails.of_eq (pointsTo_congr (copied c fn (gath m ρ)))))
  unfold known blk
  iintro ⟨⟨#_, #Hs, #_, #Hr, #_, #Hs0, #Hr0⟩, Hsrc, Hdst, HO, Ht, Ht'⟩
  isplitr; · iexact Hs
  isplitr; · iexact Hr
  isplitl [Hsrc]; · iexact Hsrc
  isplitl [Hdst]; · iexact Hdst
  isplitl [HO]; · iexact HO
  isplitl [Ht]; · iexact Ht
  isplitr; · iexact Hs0
  isplitl [Ht']; · iexact Ht'
  iexact Hr0

/-- Device `c`'s signal to partner `k`: it hands over the block of its own scratch buffer that the partner writes. -/
theorem wp_ready (k : Fin 3) (c n : Dev nD) (hn : n = par k c) {α : Type} {Q : α → sProp 𝕄} {kt : PUnit → Prog (TpuEff nD τ sig (Elt F) Λ₀ .tc) α}
    (f : Buf (Elt F) ((c : Thread nD τ).loc cc0_scratch0)) (O : CellTallies nD τ sig Unit) {O' : CellTallies nD τ sig Unit}
    (hO : O' = O + bT k c) (W : Waits sig Unit) :
    iprop(known m ρ K c k ∗ owes (c : Thread nD τ) O' W ∗ dutyTok EX (barCell (par k c)) 0 k ∗ blk c (par k c) fullShare f)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc n : Thread nD τ) barS ((1 : ℕ) : ℤ)) kt) Q) := by
  subst hn
  refine BIBase.Entails.trans ?_ (Rounds.wp_signal 𝒱₀ EX (exch m ρ) (c : Thread nD τ) none (dst := (par k c : Thread nD τ)) (κ := K (par k c, 0))
      (d := k) (by rw [duties_bar]; exact Finset.mem_univ _) (amount_bar m ρ (par k c) k) () O hO)
  rw [payload_bar]
  unfold known barPay
  rw [par_par]
  iintro ⟨⟨#Hb, #_, #_, #_, #Hb0, #_, #_⟩, HO, Ht, Hblk⟩
  isplitr; · iexact Hb
  isplitl [HO]; · iexact HO
  isplitl [Ht]; · iexact Ht
  isplitl [Hblk]; · iexists f; iexact Hblk
  iexact Hb0

/-- A wait of a device for the rest of a cell's only round, given that it may. -/
theorem wp_await {sm : SemLoc sig} {w : TpuEff nD τ sig (Elt F) Λ₀ .tc PUnit} (c : Dev nD) (κ n : ℕ)
    (hw : ∀ K : PUnit → sProp 𝕄, wpE (defs₀ (F := F)) 𝒱₀ (c : Thread nD τ) none Set.univ w K = waitSpec (c : Thread nD τ) Set.univ sm n K)
    {α : Type} {Q : α → sProp 𝕄} {kt : PUnit → Prog (TpuEff nD τ sig (Elt F) Λ₀ .tc) α} (O : CellTallies nD τ sig Unit) (W : Waits sig Unit) (R : sProp 𝕄)
    (hn : n = (exch (F := F) m ρ).expect ((c : Thread nD τ), sm) 0)
    (hR : bigSep ((exch (F := F) m ρ).duties ((c : Thread nD τ), sm) 0 \ ∅) (fun d => (exch (F := F) m ρ).payload ((c : Thread nD τ), sm) 0 d) = R) :
    iprop(cellInv EX (exch m ρ) κ ((c : Thread nD τ), sm) ∗ cred (tallyAt ((c : Thread nD τ), sm) () n) ∗ owes (c : Thread nD τ) O W
        ∗ MayWait (c : Thread nD τ) sm () O ∗ atPos EX ((c : Thread nD τ), sm) 0 ∅ 0)
      ⊢ iprop(((owes (c : Thread nD τ) O (insert (sm, ()) W) ∗ atPos EX ((c : Thread nD τ), sm) (0 + 1) ∅ 0 ∗ R)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  iintro H Hk
  iapply (Rounds.wp_wait_rest_token 𝒱₀ EX (exch m ρ) (c : Thread nD τ) none (κ := κ) hw (Set.mem_univ _) () (O := O) (W := W) (R := 0) (m := 0) (T := ∅)
    (by rw [Nat.zero_add]; exact hn)) $$ H
  rw [hR]
  iintro ⟨HO, Hat, -, HR⟩
  iapply Hk
  isplitl [HO]; · iexact HO
  isplitl [Hat] <;> iassumption

/-- The same at a wait on a copy's semaphore, nothing owed. -/
theorem wp_got (q : DmaSem sig) (c : Dev nD) (κ : ℕ) {hs hd : (sbM c).view.WordExact}
    {α : Type} {Q : α → sProp 𝕄} {kt : PUnit → Prog (TpuEff nD τ sig (Elt F) Λ₀ .tc) α} (W : Waits sig Unit) (R : sProp 𝕄)
    (hn : N = (exch (F := F) m ρ).expect ((c : Thread nD τ), .dma q) 0)
    (hR : bigSep ((exch (F := F) m ρ).duties ((c : Thread nD τ), .dma q) 0 \ ∅) (fun d => (exch (F := F) m ρ).payload ((c : Thread nD τ), .dma q) 0 d) = R) :
    iprop(cellInv EX (exch m ρ) κ ((c : Thread nD τ), .dma q) ∗ cred (tallyAt ((c : Thread nD τ), .dma q) () N) ∗ owes (c : Thread nD τ) 0 W
        ∗ atPos EX ((c : Thread nD τ), .dma q) 0 ∅ 0)
      ⊢ iprop(((owes (c : Thread nD τ) 0 (insert (.dma q, ()) W) ∗ atPos EX ((c : Thread nD τ), .dma q) (0 + 1) ∅ 0 ∗ R)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q (sbM c) (sbM c) hs hd) kt) Q) := by
  refine BIBase.Entails.trans ?_ (wp_await m ρ c κ N (w := .waitDma2 q (sbM c) (sbM c) hs hd) (fun K => by rw [wpE_waitDma2_eq, N_eq]) 0 W R hn hR)
  iintro ⟨HI, Hc, HO, Ha⟩
  isplitl [HI]; · iexact HI
  isplitl [Hc]; · iexact Hc
  isplitl [HO]; · iexact HO
  isplitr; · rw [MayWait_zero]; iempintro
  iexact Ha

end Copy

/-! ## The body -/

theorem send0 : ((cc0_scratch1.slice (Rect.unit (s := S3) ![0] S1.size inb_S3_S1_0)).squeeze S_ squeezes_S1_S_ : DmaSems sig S_).sem = sendS 0 := rfl
theorem send1 : ((cc0_scratch1.slice (Rect.unit (s := S3) ![1] S1.size inb_S3_S1_1)).squeeze S_ squeezes_S1_S_ : DmaSems sig S_).sem = sendS 1 := rfl
theorem send2 : ((cc0_scratch1.slice (Rect.unit (s := S3) ![2] S1.size inb_S3_S1_2)).squeeze S_ squeezes_S1_S_ : DmaSems sig S_).sem = sendS 2 := rfl
theorem recv0 : ((cc0_scratch2.slice (Rect.unit (s := S3) ![0] S1.size inb_S3_S1_0)).squeeze S_ squeezes_S1_S_ : DmaSems sig S_).sem = recvS 0 := rfl
theorem recv1 : ((cc0_scratch2.slice (Rect.unit (s := S3) ![1] S1.size inb_S3_S1_1)).squeeze S_ squeezes_S1_S_ : DmaSems sig S_).sem = recvS 1 := rfl
theorem recv2 : ((cc0_scratch2.slice (Rect.unit (s := S3) ![2] S1.size inb_S3_S1_2)).squeeze S_ squeezes_S1_S_ : DmaSems sig S_).sem = recvS 2 := rfl
theorem one_toInt : (1#32 : BitVec 32).toInt = ((1 : ℕ) : ℤ) := rfl

theorem own_access (c : Dev nD) : ((gM).access (rowRect1 c) : View sig .tc _ _ _).set ⊆ (rowRect c).set := by
  rw [← rect_eq c]; exact (View.set_slice_whole cc0_scratch0 (rowRect1 c)).subset

theorem own_stored (c : Dev nD) (f : Buf (Elt F) ((c : Thread nD τ).loc cc0_scratch0)) :
    ((((gM).access (rowRect1 c) : View sig .tc _ _ _).loc (c : Thread nD τ)) ↦[(rowRect c).set]{fullShare} ((gM).access (rowRect1 c)).write (Elt F) f (blkVal m ρ c) Finset.univ : sProp 𝕄)
      ⊢ blk c c fullShare (gath m ρ) := by
  rw [blk_eq]; exact Entails.of_eq (pointsTo_congr (stored m ρ c f))

section Run
variable (K : Dev nD × Fin 7 → ℕ)

def bodyPre (c : Dev nD) : sProp 𝕄 :=
  iprop((ghost m ρ K c ∗ credits c ∗ levAts L lv ∗ ∃ f, scr c f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (rstg m ρ c) ∗ stg c cc0_stg2_0 (istg m ρ c) ∗ stg c cc0_stg3_0 (estg m ρ c)
    ∗ stg c cc0_stg4_0 (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId, one_toInt]
  unfold bodyPre ghost held credits
  iintro ⟨⟨⟨⟨#HIB, HaB, ⟨#Hk0, #Hk1, #Hk2⟩, ⟨HaS0, HaV0, HtB0, HtS0, HtV0⟩, ⟨HaS1, HaV1, HtB1, HtS1, HtV1⟩, HaS2, HaV2, HtB2, HtS2, HtV2⟩,
      ⟨HcB, HcV0, HcV1, HcV2⟩, #Hlev, ⟨%f0, Hscr⟩⟩,
    Ho, ⟨%d0, %g0, %hg0, Hx⟩, ⟨%d1, %g1, %hg1, Hr⟩, ⟨%d2, %g2, %hg2, Hi⟩, ⟨%d3, %g3, %hg3, He⟩, ⟨%d4, %g4, %hg4, Hout⟩⟩, Hk⟩
  have h0 : g0 = xstg m ρ c := by rw [hg0]; unfold Dat.before; rw [if_pos (fetch0_0 t0_0)]; rfl
  have h1 : g1 = rstg m ρ c := by rw [hg1]; unfold Dat.before; rw [if_pos (fetch0_1 t0_0)]; rfl
  have h2 : g2 = istg m ρ c := by rw [hg2]; unfold Dat.before; rw [if_pos (fetch0_2 t0_0)]; rfl
  have h3 : g3 = estg m ρ c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = O₀ c from rfl]
  -- the scratch buffer in blocks: the partners' go to them with the signals
  unfold scr
  ihave Hb := (Entails.of_eq (scr_blocks c fullShare f0)) $$ Hscr
  icases Hb with ⟨Hown, Hb0, Hb1, Hb2⟩
  iapply (wp_ready m ρ K 0 c _ (dev1_eq c) f0 (OR c + bT 2 c + bT 1 c) rfl W) $$ [HO HtB0 Hb0]
  · isplitr; · iexact Hk0
    isplitl [HO]; · iexact HO
    isplitl [HtB0] <;> iassumption
  iintro HO
  iapply (wp_ready m ρ K 1 c _ (dev2_eq c) f0 (OR c + bT 2 c) rfl W) $$ [HO HtB1 Hb1]
  · isplitr; · iexact Hk1
    isplitl [HO]; · iexact HO
    isplitl [HtB1] <;> iassumption
  iintro HO
  iapply (wp_ready m ρ K 2 c _ (dev3_eq c) f0 (OR c) rfl W) $$ [HO HtB2 Hb2]
  · isplitr; · iexact Hk2
    isplitl [HO]; · iexact HO
    isplitl [HtB2] <;> iassumption
  iintro HO
  -- the inputs
  iapply (wp_load 𝒱₀ (c : Thread nD τ) none Set.univ (m := iM) (Finset.subset_univ _)) $$ Hi; iintro Hi
  rw [load_i]
  iapply (wp_load 𝒱₀ (c : Thread nD τ) none Set.univ (m := xM) (Finset.subset_univ _)) $$ Hx; iintro Hx
  rw [load_x]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  -- the device's own block: read once without use, then stored
  ihave Hown := (Entails.of_eq (blk_eq c c fullShare f0)) $$ Hown
  iapply (wp_load_rect 𝒱₀ (c : Thread nD τ) none Set.univ (m := gM) (r := rowRect1 c) (own_access c)) $$ Hown; iintro Hown
  iapply (wp_store 𝒱₀ (c : Thread nD τ) none Set.univ (m := gM) (r := rowRect1 c) (Mk := Finset.univ) (own_access c)) $$ Hown; iintro Hown
  have hst := own_stored m ρ c f0
  unfold blkVal devW at hst
  ihave Hown := hst $$ Hown
  -- the barrier: the partners' blocks `c` come with it
  iapply (wp_await m ρ c (K (c, 0)) 3 (wpE_semWait_eq 𝒱₀ (c : Thread nD τ) none Set.univ) (OR c) W _ (expect_bar m ρ c).symm (rest_bar m ρ c))
    $$ [HcB HO HaB]
  · isplitr; · iexact HIB
    isplitl [HcB]; · iexact HcB
    isplitl [HO]; · iexact HO
    isplitr; · iapply (mayWait_bar c); iexact Hlev
    iexact HaB
  iintro ⟨HO, HaB, Hp⟩
  unfold barPay
  icases Hp with ⟨⟨%e0, Hn0⟩, ⟨%e1, Hn1⟩, ⟨%e2, Hn2⟩⟩
  -- the own block in four shares, one for each copy
  ihave Hown := (blk_shares c c (gath m ρ)).mp $$ Hown
  icases Hown with ⟨Hown, Hq0, Hq1, Hq2⟩
  iapply (wp_copy m ρ K 0 c _ (dev4_eq c) e0 (rT 2 c + rT 1 c) rfl _) $$ [Hq0 Hn0 HO HtS0 HtV0]
  · isplitr; · iexact Hk0
    isplitl [Hq0]; · iexact Hq0
    isplitl [Hn0]; · iexact Hn0
    isplitl [HO]; · iexact HO
    isplitl [HtS0] <;> iassumption
  iintro ⟨HcS0, HO⟩
  iapply (wp_copy m ρ K 1 c _ (dev5_eq c) e1 (rT 2 c) rfl _) $$ [Hq1 Hn1 HO HtS1 HtV1]
  · isplitr; · iexact Hk1
    isplitl [Hq1]; · iexact Hq1
    isplitl [Hn1]; · iexact Hn1
    isplitl [HO]; · iexact HO
    isplitl [HtS1] <;> iassumption
  iintro ⟨HcS1, HO⟩
  iapply (wp_copy m ρ K 2 c _ (dev6_eq c) e2 0 (zero_add _).symm _) $$ [Hq2 Hn2 HO HtS2 HtV2]
  · isplitr; · iexact Hk2
    isplitl [Hq2]; · iexact Hq2
    isplitl [Hn2]; · iexact Hn2
    isplitl [HO]; · iexact HO
    isplitl [HtS2] <;> iassumption
  iintro ⟨HcS2, HO⟩
  -- the partners' blocks, each on its receive cell
  unfold known
  icases Hk0 with ⟨#_, #HIS0, #HIV0, #_, #_, #_, #_⟩
  icases Hk1 with ⟨#_, #HIS1, #HIV1, #_, #_, #_, #_⟩
  icases Hk2 with ⟨#_, #HIS2, #HIV2, #_, #_, #_, #_⟩
  iapply (wp_got m ρ (recvS 0) c (K (c, rj 0)) _ _ (expect_recv m ρ 0 c).symm (rest_recv m ρ 0 c))
    $$ [HcV0 HO HaV0]
  · isplitr; · iexact HIV0
    isplitl [HcV0]; · iexact HcV0
    isplitl [HO]; · iexact HO
    iexact HaV0
  iintro ⟨HO, HaV0, Hb0⟩
  iapply (wp_got m ρ (recvS 2) c (K (c, rj 2)) _ _ (expect_recv m ρ 2 c).symm (rest_recv m ρ 2 c))
    $$ [HcV2 HO HaV2]
  · isplitr; · iexact HIV2
    isplitl [HcV2]; · iexact HcV2
    isplitl [HO]; · iexact HO
    iexact HaV2
  iintro ⟨HO, HaV2, Hb2⟩
  iapply (wp_got m ρ (recvS 1) c (K (c, rj 1)) _ _ (expect_recv m ρ 1 c).symm (rest_recv m ρ 1 c))
    $$ [HcV1 HO HaV1]
  · isplitr; · iexact HIV1
    isplitl [HcV1]; · iexact HcV1
    isplitl [HO]; · iexact HO
    iexact HaV1
  iintro ⟨HO, HaV1, Hb1⟩
  -- the whole scratch buffer at the kept share: read while the copies may still run
  unfold recvPay
  ihave Hb0 := (blk_keep c (par 0 c) (gath m ρ)).mp $$ Hb0
  ihave Hb1 := (blk_keep c (par 1 c) (gath m ρ)).mp $$ Hb1
  ihave Hb2 := (blk_keep c (par 2 c) (gath m ρ)).mp $$ Hb2
  icases Hb0 with ⟨Hb0, Hr0⟩
  icases Hb1 with ⟨Hb1, Hr1⟩
  icases Hb2 with ⟨Hb2, Hr2⟩
  ihave Hs := (Entails.of_eq (scr_blocks c keepQ (gath m ρ)).symm) $$ [Hown Hb0 Hb1 Hb2]
  · isplitl [Hown]; · iexact Hown
    isplitl [Hb0]; · iexact Hb0
    isplitl [Hb1] <;> iassumption
  iapply (wp_load 𝒱₀ (c : Thread nD τ) none Set.univ (m := gM) (Finset.subset_univ _)) $$ Hs; iintro Hs
  rw [load_g]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [store_o]
  ihave Hs := (Entails.of_eq (scr_blocks c keepQ (gath m ρ))) $$ Hs
  icases Hs with ⟨Hown, Hb0, Hb1, Hb2⟩
  -- the lent shares back, each on its send cell
  iapply (wp_got m ρ (sendS 0) c (K (c, sj 0)) _ _ (expect_send m ρ 0 c).symm (rest_send m ρ 0 c))
    $$ [HcS0 HO HaS0]
  · isplitr; · iexact HIS0
    isplitl [HcS0]; · iexact HcS0
    isplitl [HO]; · iexact HO
    iexact HaS0
  iintro ⟨HO, HaS0, Hq0⟩
  iapply (wp_got m ρ (sendS 1) c (K (c, sj 1)) _ _ (expect_send m ρ 1 c).symm (rest_send m ρ 1 c))
    $$ [HcS1 HO HaS1]
  · isplitr; · iexact HIS1
    isplitl [HcS1]; · iexact HcS1
    isplitl [HO]; · iexact HO
    iexact HaS1
  iintro ⟨HO, HaS1, Hq1⟩
  iapply (wp_got m ρ (sendS 2) c (K (c, sj 2)) _ _ (expect_send m ρ 2 c).symm (rest_send m ρ 2 c))
    $$ [HcS2 HO HaS2]
  · isplitr; · iexact HIS2
    isplitl [HcS2]; · iexact HcS2
    isplitl [HO]; · iexact HO
    iexact HaS2
  iintro ⟨HO, HaS2, Hq2⟩
  unfold sendPay
  ihave Hown := (blk_shares c c (gath m ρ)).mpr $$ [Hown Hq0 Hq1 Hq2]
  · isplitl [Hown]; · iexact Hown
    isplitl [Hq0]; · iexact Hq0
    isplitl [Hq1] <;> iassumption
  ihave Hb0 := (blk_keep c (par 0 c) (gath m ρ)).mpr $$ [Hb0 Hr0]
  · isplitl [Hb0] <;> iassumption
  ihave Hb1 := (blk_keep c (par 1 c) (gath m ρ)).mpr $$ [Hb1 Hr1]
  · isplitl [Hb1] <;> iassumption
  ihave Hb2 := (blk_keep c (par 2 c) (gath m ρ)).mpr $$ [Hb2 Hr2]
  · isplitl [Hb2] <;> iassumption
  ihave Hscr := (Entails.of_eq (scr_blocks c fullShare (gath m ρ)).symm) $$ [Hown Hb0 Hb1 Hb2]
  · isplitl [Hown]; · iexact Hown
    isplitl [Hb0]; · iexact Hb0
    isplitl [Hb1] <;> iassumption
  -- the cells close: their counters at zero are the device's again
  imod (Rounds.cell_close EX (exch m ρ) (Set.mem_univ (K (c, 0))) (fun h => h) (R := 0 + 1) (duties_later m ρ (barCell c))) $$ [HaB] with HzB
  · isplitr; · iexact HIB
    iexact HaB
  imod (Rounds.cell_close EX (exch m ρ) (Set.mem_univ (K (c, sj 0))) (fun h => h) (R := 0 + 1) (duties_later m ρ (sendCell 0 c))) $$ [HaS0] with HzS0
  · isplitr; · iexact HIS0
    iexact HaS0
  imod (Rounds.cell_close EX (exch m ρ) (Set.mem_univ (K (c, sj 1))) (fun h => h) (R := 0 + 1) (duties_later m ρ (sendCell 1 c))) $$ [HaS1] with HzS1
  · isplitr; · iexact HIS1
    iexact HaS1
  imod (Rounds.cell_close EX (exch m ρ) (Set.mem_univ (K (c, sj 2))) (fun h => h) (R := 0 + 1) (duties_later m ρ (sendCell 2 c))) $$ [HaS2] with HzS2
  · isplitr; · iexact HIS2
    iexact HaS2
  imod (Rounds.cell_close EX (exch m ρ) (Set.mem_univ (K (c, rj 0))) (fun h => h) (R := 0 + 1) (duties_later m ρ (recvCell 0 c))) $$ [HaV0] with HzV0
  · isplitr; · iexact HIV0
    iexact HaV0
  imod (Rounds.cell_close EX (exch m ρ) (Set.mem_univ (K (c, rj 1))) (fun h => h) (R := 0 + 1) (duties_later m ρ (recvCell 1 c))) $$ [HaV1] with HzV1
  · isplitr; · iexact HIV1
    iexact HaV1
  imod (Rounds.cell_close EX (exch m ρ) (Set.mem_univ (K (c, rj 2))) (fun h => h) (R := 0 + 1) (duties_later m ρ (recvCell 2 c))) $$ [HaV2] with HzV2
  · isplitr; · iexact HIV2
    iexact HaV2
  rw [wp_ret]; imodintro
  iapply Hk
  unfold bodyPost Φ₁ zeros scr Dat.owesAt Pipeline.owesWithin
  rw [show (dats m ρ 0 c).owed t0_0.succ = 0 from rfl]
  isplitl [Hscr HzB HzS0 HzS1 HzS2 HzV0 HzV1 HzV2]
  · isplitl [Hscr]; · iexact Hscr
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [HO]
  · iexists (insert (SemLoc.dma (sendS 2), ()) (insert (SemLoc.dma (sendS 1), ()) (insert (SemLoc.dma (sendS 0), ())
      (insert (SemLoc.dma (recvS 1), ()) (insert (SemLoc.dma (recvS 2), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hc, Hl⟩, Hscr⟩, Ho, Hw⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho] <;> iassumption
  · iintro H; iexact H

end Run

end Cert.Exchange

end
-- ==== Proof.Launch.lean ====
/-
# The launch: the exchange's cells opened, the run of all four devices, its frame

The launch mints each device's duty tokens; each token then goes to the device that pays the duty. Partnership is a
permutation of the devices, so for each partner number the tokens are dealt by that permutation.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_full (c : Dev nD) (w : Fin cfg0.W) : (dats m ρ 0 c).share w = fullShare := by unfold Dat.share; split <;> rfl

/-! ## The cells and the tokens minted for them -/

theorem csem_inj : ∀ k k' : Fin 7, csem k = csem k' → k = k' := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_inj k k' (congrArg Prod.snd h)
  rw [h1, h2]
def exchCells : Finset (GSem nD τ sig) := Finset.univ.map ⟨kcell, kcell_injective⟩

/-- Partner number `k`'s token of kind `t` at device `c`'s own cells: its barrier's, its send cell's, its receive cell's. -/
abbrev tokSem (kt : Fin 3 × Fin 3) : SemLoc sig × Fin 3 := match kt.2 with
  | 0 => (.reg barS, kt.1) | 1 => (.dma (sendS kt.1), 0) | 2 => (.dma (recvS kt.1), 0)
abbrev tokOf (x : Dev nD × Fin 3 × Fin 3) : GSem nD τ sig × ℕ × Fin 3 := (((x.1 : Thread nD τ), (tokSem x.2).1), 0, (tokSem x.2).2)

theorem tokSem_inj : ∀ a b : Fin 3 × Fin 3, tokSem a = tokSem b → a = b := by decide

theorem tokOf_injective : Function.Injective (tokOf : Dev nD × Fin 3 × Fin 3 → GSem nD τ sig × ℕ × Fin 3) := by
  rintro ⟨c, a⟩ ⟨c', b⟩ h
  have h1 : c = c' := congrArg (fun x : GSem nD τ sig × ℕ × Fin 3 => x.1.1.1) h
  have h2 : a = b := tokSem_inj a b (congrArg (fun x : GSem nD τ sig × ℕ × Fin 3 => (x.1.2, x.2.2)) h)
  rw [h1, h2]
def exchToks : Finset (GSem nD τ sig × ℕ × Fin 3) := Finset.univ.map ⟨tokOf, tokOf_injective⟩

def u₀ : UU :=
  (initOf (Pipeline.cells cfgs cellOf_inj) (Pipeline.launchToks cfgs cellOf_inj), initOf exchCells exchToks)

/-- Partner number `k`'s duty tokens of device `c`'s own cells. -/
def tokK (k : Fin 3) (c : Dev nD) : sProp 𝕄 :=
  iprop(dutyTok EX (barCell c) 0 k ∗ dutyTok EX (sendCell k c) 0 0 ∗ dutyTok EX (recvCell k c) 0 0)
def toks (c : Dev nD) : sProp 𝕄 := iprop(tokK 0 c ∗ tokK 1 c ∗ tokK 2 c)

/-- What the launch element deals device `c`, and what the global step makes of it. -/
def G (c : Dev nD) : sProp 𝕄 :=
  iprop((bigSep Finset.univ fun k : Fin 7 => roundState EX (exch m ρ) (kcell (c, k)) 0)
    ∗ (bigSep Finset.univ fun k : Fin 7 => iprop(atPos EX (kcell (c, k)) 0 ∅ 0 ∗ reached EX (kcell (c, k)) 0)) ∗ toks c)
def G' (c : Dev nD) : sProp 𝕄 := iprop(∃ K, ghost m ρ K c)

omit [FloatOps F] in
theorem bigSep_3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_exch : BI.own (EX (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : Fin 7 => Φ (kcell (c, k)) := by
    unfold exchCells; rw [bigSep_map, bigSep_univ_prod]; rfl
  have hT : bigSep exchToks (fun x => (dutyTok EX x.1 x.2.1 x.2.2 : sProp 𝕄)) = bigSep Finset.univ fun c : Dev nD => toks c := by
    unfold exchToks; rw [bigSep_map, bigSep_univ_prod]
    refine bigSep_congr fun c _ => ?_
    rw [bigSep_univ_prod, bigSep_3, bigSep_3, bigSep_3, bigSep_3]
    rfl
  iintro HX
  imod (Rounds.fund EX (exch m ρ) exchCells exchToks) $$ HX with ⟨Hst, Hr, Hat, Htok⟩
  imodintro
  ihave Hst' := (Entails.of_eq (hX fun g => roundState EX (exch m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem ownSems_list (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems_one (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems_list, unscopedSems_one, bigSep_7]
  iintro ⟨HS, HB⟩
  isplitl [HB]; · iexact HB
  iexact HS

/-! ## The cells opened, the tokens dealt -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (exch m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems_cells (F := F) c) $$ [Hos Hus]
  · isplitl [Hos] <;> iassumption
  imod (show iprop((bigSep Finset.univ fun k : Fin 7 => semVal (kcell (c, k)) 0) ∗ bigSep Finset.univ fun k : Fin 7 => roundState EX (exch m ρ) (kcell (c, k)) 0)
      ⊢ (|={Set.univ}=> bigSep Finset.univ fun k => iprop(∃ κ : ℕ, cellInv EX (exch m ρ) κ (kcell (c, k))) : sProp 𝕄) from by
        rw [← bigSep_sep']
        exact (bigSep_mono fun k _ => (Rounds.body_intro EX (exch m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv EX (exch m ρ) (K ck) (kcell ck))
    ∗ bigSep Finset.univ fun ck : Dev nD × Fin 7 => reached EX (kcell ck) 0)

instance records_persistent (K : Dev nD × Fin 7 → ℕ) : BI.Persistent (records m ρ K) := by unfold records; infer_instance

theorem inv_at (K : Dev nD × Fin 7 → ℕ) (ck : Dev nD × Fin 7) {g : GSem nD τ sig} (hg : kcell ck = g) :
    (bigSep Finset.univ fun ck : Dev nD × Fin 7 => (cellInv EX (exch m ρ) (K ck) (kcell ck) : sProp 𝕄)) ⊢ cellInv EX (exch m ρ) (K ck) g := by
  rw [← hg]; exact bigSep_elim (Finset.mem_univ ck)
omit [FloatOps F] in
theorem reached_at (ck : Dev nD × Fin 7) {g : GSem nD τ sig} (hg : kcell ck = g) :
    (bigSep Finset.univ fun ck : Dev nD × Fin 7 => (reached EX (kcell ck) 0 : sProp 𝕄)) ⊢ reached EX g 0 := by
  rw [← hg]; exact bigSep_elim (Finset.mem_univ ck)

/-- The tokens of the duties device `c` pays towards partner `k`. -/
def payK (k : Fin 3) (c : Dev nD) : sProp 𝕄 :=
  iprop(dutyTok EX (barCell (par k c)) 0 k ∗ dutyTok EX (sendCell k c) 0 0 ∗ dutyTok EX (recvCell k (par k c)) 0 0)
def pays (c : Dev nD) : sProp 𝕄 := iprop(payK 0 c ∗ payK 1 c ∗ payK 2 c)
def linear (c : Dev nD) : sProp 𝕄 :=
  iprop((bigSep Finset.univ fun k : Fin 7 => atPos EX (kcell (c, k)) 0 ∅ 0) ∗ pays c)

theorem known_intro (K : Dev nD × Fin 7 → ℕ) (c : Dev nD) (k : Fin 3) : records m ρ K ⊢ known m ρ K c k := by
  unfold records known
  iintro ⟨#HI, #HR⟩
  isplitr; · iapply (inv_at m ρ K (par k c, 0) rfl); iexact HI
  isplitr; · iapply (inv_at m ρ K (c, sj k) (kcell_s k c)); iexact HI
  isplitr; · iapply (inv_at m ρ K (c, rj k) (kcell_r k c)); iexact HI
  isplitr; · iapply (inv_at m ρ K (par k c, rj k) (kcell_r k (par k c))); iexact HI
  isplitr; · iapply (reached_at (F := F) (par k c, 0) rfl); iexact HR
  isplitr; · iapply (reached_at (F := F) (c, sj k) (kcell_s k c)); iexact HR
  iapply (reached_at (F := F) (par k c, rj k) (kcell_r k (par k c))); iexact HR

omit [FloatOps F] in
theorem held_intro (c : Dev nD) : (linear (F := F) c : sProp 𝕄) ⊢ iprop(atPos EX (barCell c) 0 ∅ 0 ∗ (held c 0 ∗ held c 1 ∗ held c 2)) := by
  unfold linear pays payK held
  rw [bigSep_7]
  iintro ⟨⟨HaB, HS0, HS1, HS2, HV0, HV1, HV2⟩, ⟨Hb0, Hs0, Hv0⟩, ⟨Hb1, Hs1, Hv1⟩, Hb2, Hs2, Hv2⟩
  isplitl [HaB]; · iexact HaB
  isplitl [HS0 HV0 Hb0 Hs0 Hv0]
  · isplitl [HS0]; · iexact HS0
    isplitl [HV0]; · iexact HV0
    isplitl [Hb0]; · iexact Hb0
    isplitl [Hs0] <;> iassumption
  isplitl [HS1 HV1 Hb1 Hs1 Hv1]
  · isplitl [HS1]; · iexact HS1
    isplitl [HV1]; · iexact HV1
    isplitl [Hb1]; · iexact Hb1
    isplitl [Hs1] <;> iassumption
  isplitl [HS2]; · iexact HS2
  isplitl [HV2]; · iexact HV2
  isplitl [Hb2]; · iexact Hb2
  isplitl [Hs2] <;> iassumption

theorem ghost_intro (K : Dev nD × Fin 7 → ℕ) (c : Dev nD) : iprop(records m ρ K ∗ linear c) ⊢ G' m ρ c := by
  unfold G' ghost
  iintro ⟨#HR, Hl⟩
  ihave Hl := (held_intro (F := F) c) $$ Hl
  icases Hl with ⟨HaB, Hh⟩
  iexists K
  isplitr
  · ihave HR' := (show records m ρ K ⊢ (bigSep Finset.univ fun ck : Dev nD × Fin 7 => (cellInv EX (exch m ρ) (K ck) (kcell ck) : sProp 𝕄)) from by
      unfold records; iintro ⟨H, -⟩; iexact H) $$ HR
    iapply (inv_at m ρ K (c, 0) rfl); iexact HR'
  isplitl [HaB]; · iexact HaB
  isplitr [Hh]
  · isplitr; · iapply (known_intro m ρ K c 0); iexact HR
    isplitr; · iapply (known_intro m ρ K c 1); iexact HR
    iapply (known_intro m ρ K c 2); iexact HR
  iexact Hh

omit [FloatOps F] in
/-- Partner number `k`'s tokens dealt: each device's barrier token and receive token to its partner `k`. -/
theorem deal (k : Fin 3) : (bigSep Finset.univ fun c : Dev nD => (tokK k c : sProp 𝕄)) ⊢ bigSep Finset.univ fun c : Dev nD => payK k c := by
  unfold tokK payK
  rw [bigSep_sep', bigSep_sep', bigSep_sep', bigSep_sep',
    bigSep_univ_equiv (swap k) (fun c : Dev nD => (dutyTok EX (barCell c) 0 k : sProp 𝕄)),
    bigSep_univ_equiv (swap k) (fun c : Dev nD => (dutyTok EX (recvCell k c) 0 0 : sProp 𝕄))]
  exact Entails.of_eq rfl

omit [FloatOps F] in
theorem deals : (bigSep Finset.univ fun c : Dev nD => (toks c : sProp 𝕄)) ⊢ bigSep Finset.univ fun c : Dev nD => pays c := by
  unfold toks pays
  rw [bigSep_sep', bigSep_sep', bigSep_sep', bigSep_sep']
  iintro ⟨H0, H1, H2⟩
  isplitl [H0]; · iapply (deal (F := F) 0); iexact H0
  isplitl [H1]; · iapply (deal (F := F) 1); iexact H1
  iapply (deal (F := F) 2); iexact H2

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (exch m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv EX (exch m ρ) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄))]
  iintro ⟨HI, ⟨Hat, #HR⟩, Htok⟩
  ihave HK := (BI.bigSep_exists_pi Finset.univ (fun (ck : Dev nD × Fin 7) (κ : ℕ) => (cellInv EX (exch m ρ) κ (kcell ck) : sProp 𝕄))) $$ HI
  icases HK with ⟨%K, #HI⟩
  ihave Htk := (deals (F := F)) $$ Htok
  iapply (bigSep_beside (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos EX (kcell (c, k)) 0 ∅ 0 : sProp 𝕄)) pays).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : Iff (barCell a = barCell b) (a = b) :=
  ⟨fun h => Fin.ext (congrArg (fun g : GSem nD τ sig => g.1.1.val) h), fun h => h ▸ rfl⟩
theorem recv_iff {k k' : Fin 3} {a b : Dev nD} : Iff (recvCell k a = recvCell k' b) (k = k' ∧ a = b) :=
  ⟨fun h => ⟨recv_inj k k' (SemLoc.dma.inj (congrArg Prod.snd h)), Fin.ext (congrArg (fun g : GSem nD τ sig => g.1.1.val) h)⟩, fun h => by rw [h.1, h.2]⟩

theorem bT_bar (k : Fin 3) (d c : Dev nD) : bT k d (barCell c) () = if d = par k c then 1 else 0 := by
  rw [tallyAt_apply]
  refine if_congr ⟨fun h => ?_, fun h => ⟨?_, rfl⟩⟩ rfl rfl
  · rw [bar_iff.mp h.1, par_par]
  · rw [h, par_par]
theorem bT_recv (k k' : Fin 3) (d c : Dev nD) : bT k d (recvCell k' c) () = 0 := by
  rw [tallyAt_apply]; exact if_neg fun h => recv_ne_bar k' (congrArg Prod.snd h.1)
theorem rT_bar (k : Fin 3) (d c : Dev nD) : rT k d (barCell c) () = 0 := by
  rw [tallyAt_apply]; exact if_neg fun h => recv_ne_bar k (congrArg Prod.snd h.1).symm
theorem rT_recv (k k' : Fin 3) (d c : Dev nD) : rT k d (recvCell k' c) () = if k = k' ∧ d = par k c then N else 0 := by
  rw [tallyAt_apply]
  refine if_congr ⟨fun h => ?_, fun h => ⟨?_, rfl⟩⟩ rfl rfl
  · have := recv_iff.mp h.1; exact ⟨this.1.symm, by rw [this.2, par_par]⟩
  · rw [h.1, h.2, ← h.1, par_par]

theorem owed_bar (d c : Dev nD) : O₀ d (barCell c) () = (if d = par 2 c then 1 else 0) + (if d = par 1 c then 1 else 0) + (if d = par 0 c then 1 else 0) := by
  unfold O₀ OR
  simp only [Pi.add_apply, Finsupp.add_apply]
  rw [bT_bar, bT_bar, bT_bar, rT_bar, rT_bar, rT_bar]
  simp only [Nat.add_zero, Nat.zero_add]
theorem owed_recv (k : Fin 3) (d c : Dev nD) : O₀ d (recvCell k c) () = if d = par k c then N else 0 := by
  unfold O₀ OR
  simp only [Pi.add_apply, Finsupp.add_apply]
  rw [bT_recv, bT_recv, bT_recv, rT_recv, rT_recv, rT_recv]
  simp only [Nat.add_zero]
  fin_cases k
  · rw [if_neg (fun h => absurd h.1 (by decide)), if_neg (fun h => absurd h.1 (by decide))]
    simp only [Nat.zero_add]
    exact if_congr (and_iff_right rfl) rfl rfl
  · rw [if_neg (fun h => absurd h.1 (by decide)), if_neg (c := _ ∧ d = par 0 c) (fun h => absurd h.1 (by decide))]
    simp only [Nat.zero_add, Nat.add_zero]
    exact if_congr (and_iff_right rfl) rfl rfl
  · rw [if_neg (c := _ ∧ d = par 1 c) (fun h => absurd h.1 (by decide)), if_neg (c := _ ∧ d = par 0 c) (fun h => absurd h.1 (by decide))]
    simp only [Nat.add_zero]
    exact if_congr (and_iff_right rfl) rfl rfl

omit [FloatOps F] in
theorem sum_at (d₀ : Dev nD) (n : ℕ) : (Finset.univ.sum fun d : Dev nD => if d = d₀ then n else 0) = n := by
  rw [Finset.sum_ite_eq' Finset.univ d₀ fun _ => n, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_at, sum_at, sum_at]

theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, sum_at]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv, ← launch_recv, ← launch_recv]
  refine BIBase.Entails.trans (bigSep_subset (t := {SemLoc.dma (recvS 0), SemLoc.dma (recvS 1), SemLoc.dma (recvS 2)}) ?_) (Entails.of_eq ?_)
  · intro x hx
    simp only [Finset.mem_insert, Finset.mem_singleton] at hx
    refine Finset.mem_erase.mpr ⟨?_, Finset.mem_univ _⟩
    rcases hx with h | h | h <;> rw [h] <;> exact recv_ne_bar _
  · rw [bigSep_insert (by decide), bigSep_insert (by decide), bigSep_singleton]; rfl

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_list, unscopedSems_one]
  unfold Φ₁ zeros scr
  iintro ⟨Hr, HzB, ⟨HS0, HS1, HS2⟩, HV⟩
  isplitl [HzB]; · iexact HzB
  isplitl [HS0 HS1 HS2 HV]
  · isplitl [HS0]; · iexact HS0
    isplitl [HS1]; · iexact HS1
    isplitl [HS2] <;> iassumption
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On four devices, over any float values, from any memory with zero counters: every fair run of the program ends,
    with each array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem final_arg0 (c : Dev nD) : finalA m ρ c (0 : Fin 5) = m ((c : Thread nD τ).loc main_arg0) := (dats (F := F) m ρ 0 c).arrAt_in (0 : Fin 5) rfl _
theorem final_arg1 (c : Dev nD) : finalA m ρ c (1 : Fin 5) = m ((c : Thread nD τ).loc main_arg1) := (dats (F := F) m ρ 0 c).arrAt_in (1 : Fin 5) rfl _
theorem final_arg2 (c : Dev nD) : finalA m ρ c (2 : Fin 5) = m ((c : Thread nD τ).loc main_arg2) := (dats (F := F) m ρ 0 c).arrAt_in (2 : Fin 5) rfl _
theorem final_arg3 (c : Dev nD) : finalA m ρ c (3 : Fin 5) = m ((c : Thread nD τ).loc main_arg3) := (dats (F := F) m ρ 0 c).arrAt_in (3 : Fin 5) rfl _

end Cert.Exchange

end
-- ==== Proof.Frames.lean ====
/-
# The frame claims

The run of the exchange, read at the arguments: at exact values, and at machine values — where the program is the same
text over other values, so the same run serves.
-/
module

public import proofs.«01_k».proof.Defs
public import proofs.«01_k».proof.Proof.Launch
public import proofs.«01_k».proof.Proof.Gen.Kernel

@[expose] public section

set_option maxRecDepth 16384

noncomputable section

namespace Cert.Exchange

open Idealize.ShloMosaic Idealize.ShloMosaic.TcCoe Idealize.SL.Sem
open Cert.KernelIdeal (nD τ sig main_arg0 main_arg1 main_arg2 main_arg3)

/-- What the final memory of a run says of the arguments. -/
theorem args_kept {F : FTy → Type} [FloatOps F] (m : (ℓ : Loc nD τ sig) → Buf (Elt F) ℓ) (ρ : Dev nD → PrngReg)
    {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c 0).trans (final_arg0 m ρ c), (h c 1).trans (final_arg1 m ρ c), (h c 2).trans (final_arg2 m ρ c), (h c 3).trans (final_arg3 m ρ c)⟩

/-- The run over any float values, read at the arguments. -/
theorem frame_any {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun r h => ⟨fun c => args_kept m ρ h.1 c, h.2⟩) (run_main (F := F) m ρ)

theorem frame_ideal : Cert.quiescent_KernelIdeal (hKernelIdeal := Cert.KernelIdeal.Gen.facts) := fun m ρ _ => frame_any (F := Ideal) m ρ

/-- The two programs are one text: the body tables agree. -/
theorem body_table : (Cert.Kernel.defs₀ (F := Bits)) = Cert.KernelIdeal.defs₀ (F := Bits) := by
  refine congrArg Defs.onTc (funext fun l => funext fun a => ?_)
  match l, a with
  | 0, (t, s) => rfl
  | ⟨n + 1, h⟩, _ => exact absurd h (Nat.not_lt.2 (Nat.le_add_left _ _))

theorem table_same : Cert.Kernel.defs (F := Bits) = Cert.KernelIdeal.defs (F := Bits) :=
  congrArg (Pipeline.defs (Cert.KernelIdeal.pcfgs (F := Bits))) body_table

theorem frame_kernel : Cert.quiescent_Kernel (hKernel := Cert.Kernel.Gen.facts) := fun m ρ _ => by
  rw [table_same]; exact frame_any (F := Bits) m ρ

end Cert.Exchange

end
-- ==== Proof.Count.lean ====
/-
# Counting the tokens routed to an expert

Token `t` asks for expert `a t`. Both programs decide which tokens an expert serves by counting: `before a e n` of the
first `n` tokens ask for expert `e`, and token `t` is served by `e` when it asks for `e` and fewer than 25 earlier tokens
did. The count goes up by one at every token that asks for `e`, so among those tokens the count tells them apart.
-/
module

public import Mathlib.Data.EReal.Basic
public import Mathlib.Data.EReal.Operations
public import Mathlib.Algebra.BigOperators.Fin
public import Mathlib.Data.Fintype.Card

@[expose] public section

noncomputable section

namespace Cert.Exchange

/-- How many of the first `n` tokens ask for expert `e`. -/
def before (a : Fin 256 → BitVec 32) (e : BitVec 32) (n : ℕ) : ℕ :=
  (Finset.univ.filter fun t : Fin 256 => t.val < n ∧ a t = e).card

variable (a : Fin 256 → BitVec 32) (e : BitVec 32)

theorem before_zero : before a e 0 = 0 := by
  unfold before
  rw [Finset.card_eq_zero, Finset.filter_eq_empty_iff]
  rintro t _ ⟨h, _⟩
  exact absurd h (Nat.not_lt_zero _)

theorem before_hit {t : Fin 256} (h : a t = e) : before a e (t.val + 1) = before a e t.val + 1 := by
  unfold before
  rw [show (Finset.univ.filter fun s : Fin 256 => s.val < t.val + 1 ∧ a s = e)
      = insert t (Finset.univ.filter fun s : Fin 256 => s.val < t.val ∧ a s = e) from ?_]
  · exact Finset.card_insert_of_notMem fun hm => absurd (Finset.mem_filter.1 hm).2.1 (Nat.lt_irrefl _)
  · ext s
    simp only [Finset.mem_filter, Finset.mem_univ, true_and, Finset.mem_insert, Fin.ext_iff]
    constructor
    · rintro ⟨h1, h2⟩
      by_cases hs : s.val = t.val
      · exact .inl hs
      · exact .inr ⟨by omega, h2⟩
    · rintro (hs | ⟨h1, h2⟩)
      · exact ⟨by omega, by rw [Fin.ext hs]; exact h⟩
      · exact ⟨by omega, h2⟩

theorem before_miss {t : Fin 256} (h : a t ≠ e) : before a e (t.val + 1) = before a e t.val := by
  unfold before
  congr 1
  ext s
  simp only [Finset.mem_filter, Finset.mem_univ, true_and]
  constructor
  · rintro ⟨h1, h2⟩
    refine ⟨?_, h2⟩
    by_contra hc
    exact h (by rw [← h2]; exact congrArg a (Fin.ext (by omega)))
  · rintro ⟨h1, h2⟩; exact ⟨by omega, h2⟩

theorem before_mono {n n' : ℕ} (h : n ≤ n') : before a e n ≤ before a e n' :=
  Finset.card_le_card fun s hs => by
    simp only [Finset.mem_filter, Finset.mem_univ, true_and] at hs ⊢
    exact ⟨by omega, hs.2⟩

/-- Of two tokens that ask for `e`, the later has the larger count: equal counts, one token. -/
theorem before_inj {t t' : Fin 256} (h : a t = e) (h' : a t' = e) (hb : before a e (t.val + 1) = before a e (t'.val + 1)) : t = t' := by
  rcases lt_trichotomy t.val t'.val with hlt | heq | hgt
  · have h1 := before_mono a e (show t.val + 1 ≤ t'.val by omega)
    have h2 := before_hit a e h'
    omega
  · exact Fin.ext heq
  · have h1 := before_mono a e (show t'.val + 1 ≤ t.val by omega)
    have h2 := before_hit a e h
    omega

/-- The count as a sum of indicators over the tokens up to `i`. -/
theorem before_sum (i : Fin 256) :
    (∑ t : Fin 256, (if t.val ≤ i.val then (1 : EReal) else 0) * (if a t = e then 1 else 0)) = ((before a e (i.val + 1) : ℕ) : EReal) := by
  unfold before
  rw [Finset.card_filter, Nat.cast_sum]
  refine Finset.sum_congr rfl fun t _ => ?_
  by_cases h1 : t.val ≤ i.val <;> by_cases h2 : a t = e <;> simp [h1, h2, Nat.lt_succ_iff]

/-- Token `t` is served by expert `e`. -/
abbrev Served (t : Fin 256) : Prop := a t = e ∧ before a e t.val < 25

end Cert.Exchange

end
-- ==== Proof.Reference.lean ====
/-
# The reference

The reference walks the tokens in order. After `k` of them it holds, per expert, the number of the first `k` tokens that
ask for it, stopped at 25, and in the table the rows of the first `k` tokens: whether each expert serves the token. Its
result adds up, over the experts, the product of the token's row with the expert's matrix where the table says so.
-/
module

public import proofs.«01_k».proof.Defs
public import proofs.«01_k».proof.Proof.Count
public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.Quiescent

@[expose] public section

set_option maxRecDepth 16384

noncomputable section

namespace Cert.Exchange.Ref

open Idealize.ShloMosaic Idealize.ShloMosaic.TcCoe Idealize.SL.Sem Idealize.ShloMosaic.StableHlo Idealize.ShloMosaic.Tactic
open Cert.ReferenceIdeal Cert.ReferenceIdeal.Gen Cert.ReferenceIdeal.Value

variable {F : FTy → Type} [FloatOps F]

/-- The words of a one-column table, by row. -/
abbrev col (w : IVec S256x1 32) (t : Fin 256) : BitVec 32 := w (ix2 t 0)

/-- What the reference carries after `k` tokens. -/
structure After (w : IVec S256x1 32) (k : ℕ) (V : Valuation τ sig (Elt F)) : Prop where
  route : V (Proc.devRef .tc main_v2_0) = w
  pos : V (Proc.devRef .tc main_v2_1) = fun _ => BitVec.ofNat 32 k
  counts : V (Proc.devRef .tc main_v2_2) = fun (j : S8.Idx) => BitVec.ofNat 32 (min 25 (before (col w) (BitVec.ofNat 32 (j 0).val) k))
  table : V (Proc.devRef .tc main_v2_3) = fun (j : S256x8.Idx) =>
    BitVec.ofBool (decide ((j 0).val < k ∧ Served (col w) (BitVec.ofNat 32 (j 1).val) (j 0)))

/-- The two words of a test, joined: one bit of a conjunction. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem eq_bit (x y : BitVec 32) : IntOp.cmpi .eq x y = BitVec.ofBool (decide (x = y)) := by
  rfl

theorem under_cap (n : ℕ) : IntOp.cmpi .slt (BitVec.ofNat 32 (min 25 n)) 25#32 = BitVec.ofBool (decide (n < 25)) := by
  have h : ∀ m : Fin 26, IntOp.cmpi .slt (BitVec.ofNat 32 m.val) 25#32 = BitVec.ofBool (decide (m.val < 25)) := by decide
  rw [h ⟨min 25 n, by omega⟩]
  congr 1
  simp

theorem served_row (w : IVec S256x1 32) (k : Fin 256) (V : Valuation τ sig (Elt F)) (h : After w k.val V) (e : Fin 8) :
    res_main_while0b_v15 V (ix1 e) = BitVec.ofBool (decide (Served (col w) (BitVec.ofNat 32 e.val) k)) := by
  unfold res_main_while0b_v15
  rw [h.route, h.pos, h.counts]
  rw [Host.dynamicSlice_eq_extractStridedSlice S1x1 w _ ![k.val, 0] _ ⟨rfl, fun a => by fin_cases a <;> simp <;> omega⟩ (fun a => by
    fin_cases a
    · exact toInt_ofNat_of_lt (by have := k.isLt; omega)
    · rfl)]
  pointwise
  rw [eq_bit, under_cap, and_bits]

theorem step_counts (w : IVec S256x1 32) (k : Fin 256) (V : Valuation τ sig (Elt F)) (h : After w k.val V) :
    step_main_v2_2 V = fun (j : S8.Idx) => BitVec.ofNat 32 (min 25 (before (col w) (BitVec.ofNat 32 (j 0).val) (k.val + 1))) := by
  unfold step_main_v2_2
  rw [h.counts]
  funext j
  idx_vars j
  simp only [id]
  pointwise
  rw [served_row w k V h]
  by_cases hr : col w k = BitVec.ofNat 32 j0.val
  · rw [before_hit _ _ hr]
    by_cases hc : before (col w) (BitVec.ofNat 32 j0.val) k.val < 25
    · rw [decide_eq_true (show Served _ _ k from ⟨hr, hc⟩), Nat.min_eq_right (by omega), Nat.min_eq_right (by omega), BitVec.ofNat_add]
      rfl
    · rw [decide_eq_false (show ¬ Served _ _ k from fun hs => hc hs.2), Nat.min_eq_left (by omega), Nat.min_eq_left (by omega)]
      rfl
  · rw [before_miss _ _ hr, decide_eq_false (show ¬ Served _ _ k from fun hs => hr hs.1)]
    exact BitVec.add_zero _

theorem put_row (k : Fin 256) (x : IVec S256x8 1) (u : IVec S1x8 1) :
    Host.dynamicUpdateSlice x u (fun a => ((![(fun _ => BitVec.ofNat 32 k.val : IVec S_ 32), constantI S_ 32 0#32] : Fin 2 → IVec S_ 32) a (Shape.Idx.first h_S_)).toInt) updateFits_S256x8_S1x8
      = updateSlice x u ![k.val, 0] ⟨rfl, fun a => by fin_cases a <;> simp <;> omega⟩ :=
  Host.dynamicUpdateSlice_eq_updateSlice (s := S256x8) (u := S1x8) x u _ _ ![k.val, 0] (fun a => by
    fin_cases a
    · show (min (max (BitVec.ofNat 32 k.val).toInt 0) ((256 - 1 : ℕ) : ℤ)).toNat = k.val
      rw [toInt_ofNat_of_lt (by have := k.isLt; omega)]
      have := k.isLt
      omega
    · rfl) _

theorem step_table (w : IVec S256x1 32) (k : Fin 256) (V : Valuation τ sig (Elt F)) (h : After w k.val V) :
    step_main_v2_3 V = fun (j : S256x8.Idx) =>
      BitVec.ofBool (decide ((j 0).val < k.val + 1 ∧ Served (col w) (BitVec.ofNat 32 (j 1).val) (j 0))) := by
  unfold step_main_v2_3
  rw [h.table, h.pos]
  refine (put_row k _ _).trans ?_
  funext j
  idx_vars j
  pointwise
  by_cases hj : k.val = j0.val
  · obtain rfl : k = j0 := Fin.ext hj
    rw [dif_pos ⟨Nat.le_refl _, Nat.lt_succ_self _⟩, served_row w k V h]
    simp only [Nat.lt_succ_self, true_and]
  · rw [dif_neg (by omega)]
    exact congrArg BitVec.ofBool (decide_eq_decide.mpr ⟨fun hs => ⟨Nat.lt_succ_of_lt hs.1, hs.2⟩,
      fun hs => ⟨Nat.lt_of_le_of_ne (Nat.le_of_lt_succ hs.1) (fun e => hj e.symm), hs.2⟩⟩)

/-- After `k` tokens the reference carries their counts and their rows of the table. -/
theorem after_steps (m : (ℓ : Loc nD τ sig) → Buf (Elt F) ℓ) (c : Dev nD) :
    ∀ k ≤ 256, After (F := F) (m ((c.tc : Thread nD τ).loc main_arg2)) k (STEP^[k] (entryContents preI m c))
  | 0, _ => by
    refine ⟨?_, ctr_entry m c, ?_, ?_⟩
    · show entryContents preI m c _ = _
      simp only [entryContents, afterL_cons, afterL_nil]
      after_reads_simp
      rfl
    · show entryContents preI m c _ = _
      simp only [entryContents, afterL_cons, afterL_nil]
      after_reads_simp
      funext j
      rw [before_zero]
      rfl
    · show entryContents preI m c _ = _
      simp only [entryContents, afterL_cons, afterL_nil]
      after_reads_simp
      funext j
      rw [decide_eq_false (fun h => absurd h.1 (Nat.not_lt_zero _))]
      rfl
  | k + 1, hk => by
    have h := after_steps m c k (by omega)
    rw [Function.iterate_succ_apply']
    refine ⟨(STEP_main_v2_0 _).trans h.route, ?_, (STEP_main_v2_2 _).trans (step_counts _ ⟨k, by omega⟩ _ h),
      (STEP_main_v2_3 _).trans (step_table _ ⟨k, by omega⟩ _ h)⟩
    refine (STEP_main_v2_1 _).trans ?_
    unfold step_main_v2_1
    rw [h.pos]
    exact funext fun _ => (BitVec.ofNat_add k 1).symm

/-- The reference's result at token `i`, column `o`. -/
def outRef (x : FVec Ideal S256x128 .f32) (w : IVec S256x1 32) (W : FVec Ideal S8x128x256 .f32) : FVec Ideal S256x256 .f32 :=
  fun (j : S256x256.Idx) => ∑ e : Fin 8, if Served (col w) (BitVec.ofNat 32 e.val) (j 0) then
    ∑ d : Fin 128, x (ix2 (j 0) d) * W (ix3 e d (j 1)) else 0

theorem out_eq (m : (ℓ : Loc nD τ sig) → Buf (Elt Ideal) ℓ) (c : Dev nD) :
    out_main_v8 (F := Ideal) (STEP^[256] (entryContents preI m c))
      = outRef (m ((c.tc : Thread nD τ).loc main_arg0)) (m ((c.tc : Thread nD τ).loc main_arg2)) (m ((c.tc : Thread nD τ).loc main_arg3)) := by
  unfold out_main_v8
  rw [(after_steps m c 256 (Nat.le_refl _)).table, iter_main_arg3, iter_main_arg0]
  funext j
  idx_vars j
  unfold outRef
  pointwise
  refine Finset.sum_congr rfl fun e _ => ?_
  refine if_congr Iff.rfl (Finset.sum_congr rfl fun d _ => mul_comm _ _) ?_
  exact Ideal.ofBits_zero_f32

theorem run_value (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8)
        = outRef (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq m c), (h c).2⟩) (run m g)

/-- The reference has no semaphore, so every one reads zero. -/
theorem frame_reference : Cert.quiescent_ReferenceIdeal (hReferenceIdeal := Cert.ReferenceIdeal.Gen.facts) := fun m g _ =>
  (θ_run defs _ _).mono (fun r h => ⟨fun c => (h c).2, sem_eq_zero_of_no_sems (by decide) r.2⟩) (run (F := Ideal) m g)

end Cert.Exchange.Ref

end
-- ==== Proof.Masks.lean ====
/-
# What a device computes, at exact values

The running counts are a product of a triangle of ones with the table of which token asks for which expert; the masks say
which token, if any, has which of an expert's 25 places; a product with a mask picks a row out, or puts one back.
-/
module

public import proofs.«01_k».proof.Proof.Protocol
public import proofs.«01_k».proof.Proof.Count
public import Idealize.ShloMosaic.Lib.Pointwise
public import Idealize.ShloMosaic.Lib.DynamicIndex

@[expose] public section

set_option maxRecDepth 16384

noncomputable section

namespace Cert.Exchange

open Cert.KernelIdeal Cert.KernelIdeal.Gen
open Idealize.ShloMosaic Idealize.ShloMosaic.TcCoe

/-- A bit as an exact value. -/
theorem bit_value (p : Prop) [Decidable p] :
    (((BitVec.setWidth 32 (BitVec.ofBool (decide p))).toInt : ℝ) : EReal) = if p then 1 else 0 := by
  by_cases h : p <;> simp [h]

/-- The printed floor quotient of a position by 32. -/
theorem quo_word (n : ℕ) (hn : n < 256) :
    (Scalar.select
        (IntOp.andi
          (IntOp.cmpi CmpIPredicate.ne
            (IntOp.subi (BitVec.setWidth 32 (IntOp.cmpi CmpIPredicate.sgt (BitVec.ofNat 32 n) 0#32))
              (BitVec.setWidth 32 (IntOp.cmpi CmpIPredicate.slt (BitVec.ofNat 32 n) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 n) 32#32) 0#32))
        (IntOp.subi (IntOp.divsi ArithUnit.vector (BitVec.ofNat 32 n) 32#32) 1#32)
        (IntOp.divsi ArithUnit.vector (BitVec.ofNat 32 n) 32#32) : BitVec 32)
      = BitVec.ofNat 32 (n / 32) := by
  have h : ∀ f : Fin 256, (Scalar.select
        (IntOp.andi
          (IntOp.cmpi CmpIPredicate.ne
            (IntOp.subi (BitVec.setWidth 32 (IntOp.cmpi CmpIPredicate.sgt (BitVec.ofNat 32 f.val) 0#32))
              (BitVec.setWidth 32 (IntOp.cmpi CmpIPredicate.slt (BitVec.ofNat 32 f.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 f.val) 32#32) 0#32))
        (IntOp.subi (IntOp.divsi ArithUnit.vector (BitVec.ofNat 32 f.val) 32#32) 1#32)
        (IntOp.divsi ArithUnit.vector (BitVec.ofNat 32 f.val) 32#32) : BitVec 32)
      = BitVec.ofNat 32 (f.val / 32) := by decide +kernel
  exact h ⟨n, hn⟩

/-- The printed remainder of a position by 32. -/
theorem rem_word (n : ℕ) (hn : n < 256) :
    (Scalar.select
        (IntOp.andi
          (IntOp.xori
            (IntOp.cmpi CmpIPredicate.slt
              (IntOp.remsi ArithUnit.vector (BitVec.ofNat 32 n)
                (Scalar.select (Scalar.cmpi CmpIPredicate.eq 32#32 0#32) 1#32 32#32))
              0#32)
            (Scalar.cmpi CmpIPredicate.slt
              (Scalar.select (Scalar.cmpi CmpIPredicate.eq 32#32 0#32) 1#32 32#32) 0#32))
          (IntOp.cmpi CmpIPredicate.ne
            (IntOp.remsi ArithUnit.vector (BitVec.ofNat 32 n)
              (Scalar.select (Scalar.cmpi CmpIPredicate.eq 32#32 0#32) 1#32 32#32))
            0#32))
        (IntOp.addi
          (IntOp.remsi ArithUnit.vector (BitVec.ofNat 32 n)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 n)
          (Scalar.select (Scalar.cmpi CmpIPredicate.eq 32#32 0#32) 1#32 32#32)) : BitVec 32)
      = BitVec.ofNat 32 (n % 32) := by
  have h : ∀ f : Fin 256, (Scalar.select
        (IntOp.andi
          (IntOp.xori
            (IntOp.cmpi CmpIPredicate.slt
              (IntOp.remsi ArithUnit.vector (BitVec.ofNat 32 f.val)
                (Scalar.select (Scalar.cmpi CmpIPredicate.eq 32#32 0#32) 1#32 32#32))
              0#32)
            (Scalar.cmpi CmpIPredicate.slt
              (Scalar.select (Scalar.cmpi CmpIPredicate.eq 32#32 0#32) 1#32 32#32) 0#32))
          (IntOp.cmpi CmpIPredicate.ne
            (IntOp.remsi ArithUnit.vector (BitVec.ofNat 32 f.val)
              (Scalar.select (Scalar.cmpi CmpIPredicate.eq 32#32 0#32) 1#32 32#32))
            0#32))
        (IntOp.addi
          (IntOp.remsi ArithUnit.vector (BitVec.ofNat 32 f.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 f.val)
          (Scalar.select (Scalar.cmpi CmpIPredicate.eq 32#32 0#32) 1#32 32#32)) : BitVec 32)
      = BitVec.ofNat 32 (f.val % 32) := by decide +kernel
  exact h ⟨n, hn⟩

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem same_bit (x y : BitVec 32) : IntOp.cmpi .eq x y = BitVec.ofBool (decide (x = y)) := rfl

theorem le_bit (x y : Fin 256) : IntOp.cmpi .sle (BitVec.ofNat 32 x.val) (BitVec.ofNat 32 y.val) = BitVec.ofBool (decide (x.val ≤ y.val)) := by
  show BitVec.ofBool _ = _
  congr 1
  have h1 : (BitVec.ofNat 32 x.val).toInt = x.val := toInt_ofNat_of_lt (by have := x.isLt; omega)
  have h2 : (BitVec.ofNat 32 y.val).toInt = y.val := toInt_ofNat_of_lt (by have := y.isLt; omega)
  show decide ((BitVec.ofNat 32 x.val).toInt ≤ (BitVec.ofNat 32 y.val).toInt) = _
  rw [h1, h2]
  exact decide_eq_decide.mpr Int.ofNat_le

/-- A bit widened and read as an exact value. -/
theorem bit_float (p : Prop) [Decidable p] :
    (FloatOps.sitofp (F := Ideal) FTy.f32 (BitVec.setWidth 32 (BitVec.ofBool (decide p))) : EReal) = if p then 1 else 0 := bit_value p

theorem count_at (w : Vec Ideal S256x1 .i32) (i : Fin 256) (e : Fin 8) :
    k0_pay2 (F := Ideal) w (ix2 i e) = ((before (fun t => w (ix2 t 0)) (BitVec.ofNat 32 e.val) (i.val + 1) : ℕ) : EReal) := by
  pointwise [k0_pay2, k0_pay1]
  rw [← before_sum]
  refine Finset.sum_congr rfl fun t _ => ?_
  rw [le_bit, same_bit, bit_float, bit_float]

/-- Token `t` has place `r` with expert `e`: it asks for `e`, is the `r + 1`-st to do so, and there is such a place. -/
abbrev Has (a : Fin 256 → BitVec 32) (t : Fin 256) (e : BitVec 32) (r : ℕ) : Prop := (a t = e ∧ before a e (t.val + 1) = r + 1) ∧ r < 25

/-- A number of a place as an exact value. -/
theorem place_float (r : ℕ) (hr : r < 32) :
    (FloatOps.sitofp (F := Ideal) FTy.f32 (IntOp.addi (BitVec.ofNat 32 r) 1#32) : EReal) = ((r + 1 : ℕ) : EReal) := by
  show ((((BitVec.ofNat 32 r + BitVec.ofNat 32 1).toInt : ℤ) : ℝ) : EReal) = _
  rw [← BitVec.ofNat_add, toInt_ofNat_of_lt (by omega)]
  simp

theorem place_bit (r : ℕ) (hr : r < 32) : IntOp.cmpi .slt (BitVec.ofNat 32 r) 25#32 = BitVec.ofBool (decide (r < 25)) := by
  have h : ∀ m : Fin 32, IntOp.cmpi .slt (BitVec.ofNat 32 m.val) 25#32 = BitVec.ofBool (decide (m.val < 25)) := by decide
  exact h ⟨r, hr⟩

theorem expert_inj (x e : Fin 8) : BitVec.ofNat 32 x.val = BitVec.ofNat 32 e.val ↔ x = e := by revert x e; decide

/-- The printed test of a place, over the running counts. -/
theorem has_bit (w : Vec Ideal S256x1 .i32) (t : Fin 256) (e : Fin 8) (r : ℕ) (hr : r < 32) :
    IntOp.andi
      (IntOp.andi (IntOp.cmpi .eq (w (ix2 t 0)) (BitVec.ofNat 32 e.val))
        (BitVec.ofBool (decide ((∑ x : Fin 8, k0_pay2 (F := Ideal) w (ix2 t x) *
            FloatOps.sitofp (F := Ideal) FTy.f32 (BitVec.setWidth 32 (IntOp.cmpi .eq (BitVec.ofNat 32 x.val) (BitVec.ofNat 32 e.val)))  : EReal)
          = FloatOps.sitofp (F := Ideal) FTy.f32 (IntOp.addi (BitVec.ofNat 32 r) 1#32)))))
      (IntOp.cmpi .slt (BitVec.ofNat 32 r) 25#32)
      = BitVec.ofBool (decide (Has (fun t => w (ix2 t 0)) t (BitVec.ofNat 32 e.val) r)) := by
  have hs : (∑ x : Fin 8, k0_pay2 (F := Ideal) w (ix2 t x) *
      FloatOps.sitofp (F := Ideal) FTy.f32 (BitVec.setWidth 32 (IntOp.cmpi .eq (BitVec.ofNat 32 x.val) (BitVec.ofNat 32 e.val))) : EReal)
      = ((before (fun t => w (ix2 t 0)) (BitVec.ofNat 32 e.val) (t.val + 1) : ℕ) : EReal) := by
    rw [Finset.sum_eq_single e]
    · rw [same_bit, bit_float, if_pos rfl, count_at]; exact mul_one _
    · intro x _ hx
      rw [same_bit, bit_float, if_neg (fun h => hx ((expert_inj x e).1 h))]; exact mul_zero _
    · exact fun h => absurd (Finset.mem_univ e) h
  rw [hs, place_float r hr, place_bit r hr, same_bit, and_bit, and_bit]
  exact congrArg BitVec.ofBool (decide_eq_decide.mpr (and_congr_left' (and_congr_right' Nat.cast_inj)))

theorem smask_at (w : Vec Ideal S256x1 .i32) (i j : Fin 256) :
    smask (F := Ideal) w (ix2 i j) = if Has (fun t => w (ix2 t 0)) i (BitVec.ofNat 32 (j.val / 32)) (j.val % 32) then (1 : EReal) else 0 := by
  have hj := j.isLt
  unfold smask k0_pay9
  pointwise [k0_pay1, k0_pay5, k0_pay6, k0_pay7, k0_pay8, k0_pay3, k0_pay4]
  simp only [quo_word j.val hj, rem_word j.val hj]
  rw [has_bit w i ⟨j.val / 32, by omega⟩ (j.val % 32) (by omega)]
  exact bit_float _

end Cert.Exchange

end
-- ==== Proof.Own.lean ====
module

public import proofs.«01_k».proof.Proof.Masks

@[expose] public section

set_option maxRecDepth 16384

noncomputable section

namespace Cert.Exchange

open Idealize.ShloMosaic Idealize.SL.Sem Cert.KernelIdeal Cert.KernelIdeal.Gen

/-- The block a device computes, of the values it reads and its mesh coordinate. -/
def own (w : Vec Ideal S256x1 .i32) (x : Vec Ideal S256x128 .f32) (A B : Vec Ideal S1x128x256 .f32) (u : BitVec 32) : FVec Ideal S64x256 .bf16 :=
  k0_pay19 (k0_pay18 (k0_pay1 (F := Ideal) w) (k0_pay2 w)
    (k0_pay13 (iota .tc S256x64 32 [1] iota_S256x64_d1_w32) (Scalar.muli u 2#32) k0_pay10 k0_pay11 k0_pay12)
    (k0_pay14 (iota .tc S256x64 32 [1] iota_S256x64_d1_w32)) (iota .tc S8x64 32 [0] iota_S8x64_d0_w32) (Scalar.muli u 2#32)
    k0_pay15 k0_pay16 k0_pay17 x A B)

theorem devW_word (c : Dev nD) : Scalar.muli (devW c) 2#32 = BitVec.ofNat 32 (2 * c.val) := by revert c; decide +kernel

theorem own_at (w : Vec Ideal S256x1 .i32) (x : Vec Ideal S256x128 .f32) (A B : Vec Ideal S1x128x256 .f32) (c : Dev nD) (j : Fin 64) (o : Fin 256) :
    own w x A B (devW c) (ix2 j o) = ∑ d : Fin 128, (∑ t : Fin 256,
        (if Has (fun t => w (ix2 t 0)) t (BitVec.ofNat 32 (2 * c.val + j.val / 32)) (j.val % 32) then (1 : EReal) else 0) * x (ix2 t d)) *
      (if j.val < 32 then A (ix3 0 d o) else B (ix3 0 d o)) := by
  have hj := j.isLt
  unfold own k0_pay18 k0_pay19
  rw [devW_word]
  pointwise [k0_pay1, k0_pay13, k0_pay14, k0_pay15, k0_pay16, k0_pay17, k0_pay10, k0_pay11, k0_pay12]
  have ha (e : ℕ) : IntOp.addi (BitVec.ofNat 32 (2 * c.val)) (BitVec.ofNat 32 e) = BitVec.ofNat 32 (2 * c.val + e) := (BitVec.ofNat_add _ _).symm
  simp only [quo_word j.val (by omega), rem_word j.val (by omega), quo_word (32 + (j.val - 32)) (by omega), rem_word (32 + (j.val - 32)) (by omega), ha]
  have hc : c.val < 4 := c.isLt
  have hm (t : Fin 256) := has_bit w t ⟨2 * c.val + j.val / 32, by omega⟩ (j.val % 32) (by omega)
  dsimp only at hm
  split_ifs with h
  · simp only [hm, bit_float]
  · rw [show 32 + (j.val - 32) = j.val from by omega]
    simp only [hm, bit_float]

/-- Two tokens with one place of one expert are one token. -/
theorem has_inj (a : Fin 256 → BitVec 32) (e : BitVec 32) (r : ℕ) {t i : Fin 256} (h : Has a t e r) (h' : Has a i e r) : t = i := by
  refine before_inj a e h.1.1 h'.1.1 ?_
  have h1 := h.1.2
  have h2 := h'.1.2
  rw [before_hit a e h.1.1] at h1
  rw [before_hit a e h'.1.1] at h2
  omega

/-- Summed over the tokens, the token with a place is read. -/
theorem pick (a : Fin 256 → BitVec 32) (e : BitVec 32) (r : ℕ) (i : Fin 256) (h : Has a i e r) (f : Fin 256 → EReal) :
    ∑ t : Fin 256, (if Has a t e r then (1 : EReal) else 0) * f t = f i := by
  rw [Finset.sum_eq_single i]
  · rw [if_pos h, one_mul]
  · intro t _ ht
    rw [if_neg (fun h' => ht (has_inj a e r h' h)), zero_mul]
  · exact fun h => absurd (Finset.mem_univ i) h

/-- Over one expert's places, a token's row is its value if it is served and nothing otherwise. -/
theorem places (a : Fin 256 → BitVec 32) (e : BitVec 32) (i : Fin 256) (v : EReal) :
    ∑ k : Fin 32, (if Has a i e k.val then (1 : EReal) else 0) * v = if Served a e i then v else 0 := by
  by_cases hs : Served a e i
  · rw [if_pos hs, Finset.sum_eq_single (⟨before a e i.val, by have := hs.2; omega⟩ : Fin 32)]
    · rw [if_pos ⟨⟨hs.1, before_hit a e hs.1⟩, hs.2⟩, one_mul]
    · intro k _ hk
      rw [if_neg, zero_mul]
      intro h
      apply hk
      have h1 := h.1.2
      rw [before_hit a e h.1.1] at h1
      exact Fin.ext (by show k.val = before a e i.val; omega)
    · exact fun h => absurd (Finset.mem_univ _) h
  · rw [if_neg hs]
    refine Finset.sum_eq_zero fun k _ => ?_
    rw [if_neg, zero_mul]
    intro h
    have h1 := h.1.2
    rw [before_hit a e h.1.1] at h1
    exact hs ⟨h.1.1, by have := h.2; omega⟩

/-- The kernel's two gathers, one over the tokens and one over the places, leave each expert's value of the tokens it serves. -/
theorem exchange (a : Fin 256 → BitVec 32) (x : Fin 256 → Fin 128 → EReal) (W : Fin 8 → Fin 128 → EReal) (i : Fin 256) :
    ∑ r : Fin 256, (if Has a i (BitVec.ofNat 32 (r.val / 32)) (r.val % 32) then (1 : EReal) else 0) *
        ∑ d : Fin 128, (∑ t : Fin 256, (if Has a t (BitVec.ofNat 32 (r.val / 32)) (r.val % 32) then (1 : EReal) else 0) * x t d) *
          W ⟨r.val / 32, by have := r.isLt; omega⟩ d
      = ∑ e : Fin 8, if Served a (BitVec.ofNat 32 e.val) i then ∑ d : Fin 128, x i d * W e d else 0 := by
  have h1 : ∀ r : Fin 256, (if Has a i (BitVec.ofNat 32 (r.val / 32)) (r.val % 32) then (1 : EReal) else 0) *
        (∑ d : Fin 128, (∑ t : Fin 256, (if Has a t (BitVec.ofNat 32 (r.val / 32)) (r.val % 32) then (1 : EReal) else 0) * x t d) *
          W ⟨r.val / 32, by have := r.isLt; omega⟩ d)
      = (if Has a i (BitVec.ofNat 32 (r.val / 32)) (r.val % 32) then (1 : EReal) else 0) *
        ∑ d : Fin 128, x i d * W ⟨r.val / 32, by have := r.isLt; omega⟩ d := by
    intro r
    by_cases h : Has a i (BitVec.ofNat 32 (r.val / 32)) (r.val % 32)
    · congr 1
      refine Finset.sum_congr rfl fun d _ => ?_
      rw [pick a _ _ i h fun t => x t d]
    · rw [if_neg h, zero_mul, zero_mul]
  rw [Finset.sum_congr rfl fun r _ => h1 r]
  rw [← (finProdFinEquiv (m := 8) (n := 32)).sum_comp, Fintype.sum_prod_type]
  refine Finset.sum_congr rfl fun e _ => ?_
  rw [← places]
  refine Finset.sum_congr rfl fun k _ => ?_
  have hv : (finProdFinEquiv (m := 8) (n := 32) (e, k)).val = k.val + 32 * e.val := rfl
  have hk := k.isLt
  have hq : (finProdFinEquiv (m := 8) (n := 32) (e, k)).val / 32 = e.val := by rw [hv]; omega
  have hr : (finProdFinEquiv (m := 8) (n := 32) (e, k)).val % 32 = k.val := by rw [hv]; omega
  simp only [hq, hr]

end Cert.Exchange

end
-- ==== Proof.Value.lean ====
/-
# The kernel's result

At exact values, a device's result is the reference's result of the whole arrays: what the staging buffers hold are the
arguments, a device's experts are its block of all the experts, and the exchange's two gathers leave each expert's value of
the tokens it serves.
-/
module

public import proofs.«01_k».proof.Defs
public import proofs.«01_k».proof.Proof.Frames
public import proofs.«01_k».proof.Proof.Reference
public import proofs.«01_k».proof.Proof.Own
public import Idealize.ShloMosaic.Lib.LayoutAt

@[expose] public section

set_option maxRecDepth 16384

noncomputable section

namespace Cert.Exchange

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result array after the one step is what the body left in the staging buffer. -/
theorem final_out (c : Dev nD) : finalA m ρ c (4 : Fin 5) = outAt m ρ c := by
  have hz : (fun a => (win0_4.index (0 : Fin 1)) a * main_v1.ty.shape.size a) = fun _ => 0 :=
    funext fun a => by fin_cases a <;> decide
  refine (Memref.read_access_unit_zero (Elt Ideal) main_v1 hz (fun a => by fin_cases a <;> decide) (finalA m ρ c (4 : Fin 5))).symm.trans ?_
  show (win0_4.blk (0 : Fin 1)).view.read (Elt Ideal) (finalA m ρ c (4 : Fin 5)) = outAt m ρ c
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

theorem xstg_eq (c : Dev nD) : xstg m ρ c = m ((c : Thread nD τ).loc main_arg0) :=
  Memref.read_access_unit_zero (Elt Ideal) main_arg0 (funext fun a => by fin_cases a <;> decide) (fun a => by fin_cases a <;> decide) _

theorem istg_eq (c : Dev nD) : istg m ρ c = m ((c : Thread nD τ).loc main_arg2) :=
  Memref.read_access_unit_zero (Elt Ideal) main_arg2 (funext fun a => by fin_cases a <;> decide) (fun a => by fin_cases a <;> decide) _

theorem estg_eq (c : Dev nD) : estg m ρ c = m ((c : Thread nD τ).loc main_arg3) :=
  Memref.read_access_unit_zero (Elt Ideal) main_arg3 (funext fun a => by fin_cases a <;> decide) (fun a => by fin_cases a <;> decide) _

/-- The two experts of a device, read out of its staging buffer. -/
theorem first_at (E : (cc0_stg3_0 : Ref sig .tc).ty.Contents (Elt Ideal)) (d : Fin 128) (o : Fin 256) :
    ((eM).view.readAt (Elt Ideal) (Rect.unit (s := S2x128x256) ![0, 0, 0] S1x128x256.size inb_S2x128x256_S1x128x256_0_0_0).toLoadRect E) (ix3 0 d o)
      = E (ix3 (0 : Fin 2) d o) := by
  refine congrArg E (funext fun a => Fin.ext ?_)
  show _ + _ * _ = _
  fin_cases a <;> simp

theorem second_at (E : (cc0_stg3_0 : Ref sig .tc).ty.Contents (Elt Ideal)) (d : Fin 128) (o : Fin 256) :
    ((eM).view.readAt (Elt Ideal) (Rect.unit (s := S2x128x256) ![1, 0, 0] S1x128x256.size inb_S2x128x256_S1x128x256_1_0_0).toLoadRect E) (ix3 0 d o)
      = E (ix3 (1 : Fin 2) d o) := by
  refine congrArg E (funext fun a => Fin.ext ?_)
  show _ + _ * _ = _
  fin_cases a <;> simp

/-- A device's block of the experts. -/
theorem block_at (W : FVec Ideal ⟨3, ![8, 128, 256]⟩ .f32) (c : Fin 4) (k : Fin 2) (d : Fin 128) (o : Fin 256) :
    (Layout.block ⟨3, ![2, 128, 256]⟩ ⟨3, ![8, 128, 256]⟩ 0 4 c W) (ix3 k d o) = W (ix3 (⟨2 * c.val + k.val, by omega⟩ : Fin 8) d o) := by
  rw [Layout.block_apply]
  refine congrArg W (funext fun a => Fin.ext ?_)
  rw [Layout.Tiles.idx_val]
  fin_cases a
  · simp [Nat.mul_comm]
  · simp
  · simp

/-- A gathered row, of the whole arrays. -/
theorem gath_at (x : FVec Ideal S256x128 .f32) (w : Vec Ideal S256x1 .i32) (W : FVec Ideal ⟨3, ![8, 128, 256]⟩ .f32)
    (hx : ∀ c : Dev nD, m ((c : Thread nD τ).loc main_arg0) = x) (hw : ∀ c : Dev nD, m ((c : Thread nD τ).loc main_arg2) = w)
    (hW : ∀ c : Dev nD, m ((c : Thread nD τ).loc main_arg3) = Layout.block ⟨3, ![2, 128, 256]⟩ ⟨3, ![8, 128, 256]⟩ 0 4 c W)
    (r o : Fin 256) :
    gath m ρ (ix2 r o) = ∑ d : Fin 128, (∑ t : Fin 256,
        (if Has (fun t => w (ix2 t 0)) t (BitVec.ofNat 32 (r.val / 32)) (r.val % 32) then (1 : EReal) else 0) * x (ix2 t d)) *
      W (ix3 (⟨r.val / 32, by have := r.isLt; omega⟩ : Fin 8) d o) := by
  have hr := r.isLt
  refine (own_at (istg m ρ (rowDev r)) (xstg m ρ (rowDev r)) _ _ (rowDev r) (rowIn r) o).trans ?_
  rw [istg_eq, xstg_eq, hx, hw]
  have hd : (rowDev r).val = r.val / 64 := rfl
  have hi : (rowIn r).val = r.val % 64 := rfl
  have he : 2 * (rowDev r).val + (rowIn r).val / 32 = r.val / 32 := by rw [hd, hi]; omega
  have hp : (rowIn r).val % 32 = r.val % 32 := by rw [hi]; omega
  rw [he, hp]
  refine Finset.sum_congr rfl fun d _ => congrArg _ ?_
  split_ifs with h
  · refine (first_at (estg m ρ (rowDev r)) d o).trans ?_
    rw [estg_eq, hW]
    refine (block_at W (rowDev r) 0 d o).trans ?_
    exact congrArg (fun e : Fin 8 => W (ix3 e d o)) (Fin.ext (by show 2 * (rowDev r).val + 0 = r.val / 32; omega))
  · refine (second_at (estg m ρ (rowDev r)) d o).trans ?_
    rw [estg_eq, hW]
    refine (block_at W (rowDev r) 1 d o).trans ?_
    exact congrArg (fun e : Fin 8 => W (ix3 e d o)) (Fin.ext (by show 2 * (rowDev r).val + 1 = r.val / 32; have := (rowIn r).isLt; omega))

/-- The result on a device is the reference's. -/
theorem out_ref (x : FVec Ideal S256x128 .f32) (w : Vec Ideal S256x1 .i32) (W : FVec Ideal ⟨3, ![8, 128, 256]⟩ .f32)
    (hx : ∀ c : Dev nD, m ((c : Thread nD τ).loc main_arg0) = x) (hw : ∀ c : Dev nD, m ((c : Thread nD τ).loc main_arg2) = w)
    (hW : ∀ c : Dev nD, m ((c : Thread nD τ).loc main_arg3) = Layout.block ⟨3, ![2, 128, 256]⟩ ⟨3, ![8, 128, 256]⟩ 0 4 c W)
    (c : Dev nD) : outAt m ρ c = Ref.outRef x w W := by
  unfold outAt
  funext j
  idx_vars j
  rw [istg_eq, hw]
  refine Eq.trans (b := ∑ r : Fin 256, smask (F := Ideal) w (ix2 j0 r) * gath m ρ (ix2 r j1)) ?_ ?_
  · pointwise [k0_pay20]
  · simp only [smask_at, gath_at m ρ x w W hx hw hW]
    exact exchange (fun t => w (ix2 t 0)) (fun t d => x (ix2 t d)) (fun e d => W (ix3 e d j1)) j0

theorem algebraic : Cert.algebraic_KernelIdeal_ReferenceIdeal (hKernelIdeal := Cert.KernelIdeal.Gen.facts) (hReferenceIdeal := Cert.ReferenceIdeal.Gen.facts) := by
  intro m g m' g' _ hag
  refine ⟨_, ?_, (θ_run Cert.ReferenceIdeal.defs _ _).mono (fun r h => h 0) (Ref.run_value m' g')⟩
  refine (θ_run Cert.KernelIdeal.defs _ _).mono (fun r h c => ⟨?_, args_kept m g h.1 c⟩) (run_main (F := Ideal) m g)
  exact (h.1 c (4 : Fin 5)).trans ((final_out m g c).trans
    (out_ref m g _ _ _ (fun c => (hag c).1) (fun c => (hag c).2.2.1) (fun c => (hag c).2.2.2) c))

end Cert.Exchange

end
-- ==== Proof.lean ====
/-
# The claims

The witnesses of the programs' stated facts, and each claim from the module that proves it.
-/
module

public import proofs.«01_k».proof.Defs
public import proofs.«01_k».proof.Proof.Frames
public import proofs.«01_k».proof.Proof.Reference
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Exchange.frame_kernel,
    Cert.Exchange.frame_ideal, Cert.Exchange.Ref.frame_reference, trivial, Cert.Exchange.algebraic⟩

end Cert.Proof

end
